-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_table_KernelIdeal [hPre_ids_in_table_KernelIdeal : Cert.Pre_ids_in_table_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_table_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_table_ReferenceIdeal [hPre_ids_in_table_ReferenceIdeal : Cert.Pre_ids_in_table_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_table_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_in_table_KernelIdeal [hKernelIdeal : Cert.KernelIdeal.Facts] [hPre_ids_in_table_KernelIdeal : Cert.Pre_ids_in_table_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_table_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_table_ReferenceIdeal [hReferenceIdeal : Cert.ReferenceIdeal.Facts] [hPre_ids_in_table_ReferenceIdeal : Cert.Pre_ids_in_table_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_table_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_in_table_KernelIdeal [hKernelIdeal : Cert.KernelIdeal.Facts] [hReferenceIdeal : Cert.ReferenceIdeal.Facts] [hPre_ids_in_table_KernelIdeal : Cert.Pre_ids_in_table_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_table_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 2048]⟩ ⟨2, ![32768, 2048]⟩ (Layout.meshBlock [2, 4, 4] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_table_KernelIdeal : Cert.Pre_ids_in_table_KernelIdeal.Facts) (hPre_ids_in_table_ReferenceIdeal : Cert.Pre_ids_in_table_ReferenceIdeal.Facts),
    quiescent_Kernel (hKernel := hKernel)
    ∧ quiescent_KernelIdeal (hKernelIdeal := hKernelIdeal)
    ∧ quiescent_KernelIdeal_pre_ids_in_table_KernelIdeal (hKernelIdeal := hKernelIdeal) (hPre_ids_in_table_KernelIdeal := hPre_ids_in_table_KernelIdeal)
    ∧ quiescent_ReferenceIdeal (hReferenceIdeal := hReferenceIdeal)
    ∧ quiescent_ReferenceIdeal_pre_ids_in_table_ReferenceIdeal (hReferenceIdeal := hReferenceIdeal) (hPre_ids_in_table_ReferenceIdeal := hPre_ids_in_table_ReferenceIdeal)
    ∧ preserves_Kernel_KernelIdeal
    ∧ algebraic_KernelIdeal_ReferenceIdeal_pre_ids_in_table_KernelIdeal (hKernelIdeal := hKernelIdeal) (hReferenceIdeal := hReferenceIdeal) (hPre_ids_in_table_KernelIdeal := hPre_ids_in_table_KernelIdeal)
-- ==== Pre_ids_in_table_KernelIdeal.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : IVec S4096 32) (main_arg1 : FVec F S8192x2048 .bf16) : IVec S4096 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 32768#32
  let main_v2 : IVec S4096 32 := broadcastInDim S4096 ![] bcast_S_S4096 main_c_0
  let main_v3 : IVec S4096 1 := cmpi .slt main_arg0 main_v2
  let main_v4 : IVec S4096 1 := andi main_v1 main_v3
  main_v4
-- ==== Pre_ids_in_table_ReferenceIdeal.lean ====
abbrev S4096 : Shape := ⟨1, ![4096]⟩
abbrev S32768x2048 : Shape := ⟨2, ![32768, 2048]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : IVec S4096 32) (main_arg1 : FVec F S32768x2048 .bf16) : IVec S4096 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 32768#32
  let main_v2 : IVec S4096 32 := broadcastInDim S4096 ![] bcast_S_S4096 main_c_0
  let main_v3 : IVec S4096 1 := cmpi .slt main_arg0 main_v2
  let main_v4 : IVec S4096 1 := andi main_v1 main_v3
  main_v4
-- ==== Kernel.lean ====
abbrev S4096 : Shape := ⟨1, ![4096]⟩
abbrev S8192x2048 : Shape := ⟨2, ![8192, 2048]⟩
abbrev S_ : Shape := ⟨0, ![]⟩
abbrev S4096x1 : Shape := ⟨2, ![4096, 1]⟩
abbrev S4096x2048 : Shape := ⟨2, ![4096, 2048]⟩
abbrev S1024x2048 : Shape := ⟨2, ![1024, 2048]⟩
abbrev S6x1024x2048 : Shape := ⟨3, ![6, 1024, 2048]⟩
abbrev S6 : Shape := ⟨1, ![6]⟩
abbrev S1 : Shape := ⟨1, ![1]⟩
abbrev S1x1024x2048 : Shape := ⟨3, ![1, 1024, 2048]⟩

abbrev nBuf : Space → Nat
  | .hbm => 38
  | .vmem => 4
  | .smem => 0
  | _ => 0

abbrev bufTy : (tb : Table) → Fin (tcTables nBuf tb) → BufTy
  | .hbm, ⟨0, _⟩ => ⟨S4096, .i32⟩
  | .hbm, ⟨1, _⟩ => ⟨S8192x2048, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S4096, .i1⟩
  | .hbm, ⟨19, _⟩ => ⟨S_, .i32⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096x1, .i1⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S4096x1, .i32⟩
  | .hbm, ⟨32, _⟩ => ⟨S4096x2048, .bf16⟩
  | .hbm, ⟨33, _⟩ => ⟨S_, .bf16⟩
  | .hbm, ⟨34, _⟩ => ⟨S4096x2048, .i1⟩
  | .hbm, ⟨35, _⟩ => ⟨S4096x2048, .bf16⟩
  | .hbm, ⟨36, _⟩ => ⟨S4096x2048, .bf16⟩
  | .hbm, ⟨37, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S6x1024x2048, .bf16⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_v8 : Ref sig .tc := ⟨.hbm, 13, rfl⟩
abbrev main_v9 : Ref sig .tc := ⟨.hbm, 14, rfl⟩
abbrev main_c_3 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_4 : Ref sig .tc := ⟨.hbm, 19, rfl⟩
abbrev main_call0_v0 : Ref sig .tc := ⟨.hbm, 20, rfl⟩
abbrev main_call0_v1 : Ref sig .tc := ⟨.hbm, 21, rfl⟩
abbrev main_v13 : Ref sig .tc := ⟨.hbm, 22, rfl⟩
abbrev main_v14 : Ref sig .tc := ⟨.hbm, 23, rfl⟩
abbrev main_c_5 : Ref sig .tc := ⟨.hbm, 24, rfl⟩
abbrev main_v15 : Ref sig .tc := ⟨.hbm, 25, rfl⟩
abbrev main_v16 : Ref sig .tc := ⟨.hbm, 26, rfl⟩
abbrev main_c_6 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_call1_v0 : Ref sig .tc := ⟨.hbm, 34, rfl⟩
abbrev main_call1_v1 : Ref sig .tc := ⟨.hbm, 35, rfl⟩
abbrev main_v22 : Ref sig .tc := ⟨.hbm, 36, rfl⟩
abbrev main_v23 : Ref sig .tc := ⟨.hbm, 37, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 32
abbrev τ : Topo := Topo.v7x

variable {F : FTy → Type} [FloatOps F]

abbrev grid0 : Pipeline.Grid := .none

def k0_off1 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32 : BitVec 32 := 1024#32
  let v31 : BitVec 32 := Scalar.muli v5 c1024_i32
  let c0_i32_15 : BitVec 32 := 0#32
  ![v31.toNat, 0]
def k0_dev1 (d0 : Dev nD) : Nat :=
  let c0_i32_18 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_17 : BitVec 32 := 16#32
  let v34 : BitVec 32 := Scalar.muli v2 c16_i32_17
  let v35 : BitVec 32 := Scalar.addi c0_i32_18 v34
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.subi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_19 : BitVec 32 := 4#32
  let v36 : BitVec 32 := Scalar.muli v30 c4_i32_19
  let v37 : BitVec 32 := Scalar.addi v35 v36
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v38 : BitVec 32 := Scalar.muli v8 c1_i32_20
  let v39 : BitVec 32 := Scalar.addi v37 v38
  v39.toNat
def k0_dev2 (d0 : Dev nD) : Nat :=
  let c0_i32_23 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_22 : BitVec 32 := 16#32
  let v40 : BitVec 32 := Scalar.muli v2 c16_i32_22
  let v41 : BitVec 32 := Scalar.addi c0_i32_23 v40
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_24 : BitVec 32 := 4#32
  let v42 : BitVec 32 := Scalar.muli v19 c4_i32_24
  let v43 : BitVec 32 := Scalar.addi v41 v42
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v44 : BitVec 32 := Scalar.muli v8 c1_i32_25
  let v45 : BitVec 32 := Scalar.addi v43 v44
  v45.toNat
def k0_dev3 (d0 : Dev nD) : Nat :=
  let c0_i32_32 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_31 : BitVec 32 := 16#32
  let v47 : BitVec 32 := Scalar.muli v2 c16_i32_31
  let v48 : BitVec 32 := Scalar.addi c0_i32_32 v47
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_33 : BitVec 32 := 4#32
  let v49 : BitVec 32 := Scalar.muli v19 c4_i32_33
  let v50 : BitVec 32 := Scalar.addi v48 v49
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_34 : BitVec 32 := 1#32
  let v51 : BitVec 32 := Scalar.muli v8 c1_i32_34
  let v52 : BitVec 32 := Scalar.addi v50 v51
  v52.toNat
def k0_off2 (d0 : Dev nD) (c0_i32_37 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v59 : BitVec 32 := Scalar.subi v5 c0_i32_37
  let c1_i32_38 : BitVec 32 := 1#32
  let v60 : BitVec 32 := Scalar.subi v59 c1_i32_38
  let c4_i32_39 : BitVec 32 := 4#32
  let c0_i32_40 : BitVec 32 := 0#32
  let v61 : BitVec 1 := Scalar.cmpi .eq c4_i32_39 c0_i32_40
  let c1_i32_41 : BitVec 32 := 1#32
  let v62 : BitVec 32 := Scalar.select v61 c1_i32_41 c4_i32_39
  let v63 : BitVec 32 := Scalar.remsi v60 v62
  let c0_i32_43 : BitVec 32 := 0#32
  let v65 : BitVec 1 := Scalar.cmpi .slt v63 c0_i32_43
  let c0_i32_44 : BitVec 32 := 0#32
  let v66 : BitVec 1 := Scalar.cmpi .slt v62 c0_i32_44
  let v67 : BitVec 1 := Scalar.xori v65 v66
  let c0_i32_42 : BitVec 32 := 0#32
  let v64 : BitVec 1 := Scalar.cmpi .ne v63 c0_i32_42
  let v68 : BitVec 1 := Scalar.andi v67 v64
  let v69 : BitVec 32 := Scalar.addi v63 v62
  let v70 : BitVec 32 := Scalar.select v68 v69 v63
  let c1024_i32_45 : BitVec 32 := 1024#32
  let v71 : BitVec 32 := Scalar.muli v70 c1024_i32_45
  let c0_i32_46 : BitVec 32 := 0#32
  ![v71.toNat, 0]
def k0_dev4 (d0 : Dev nD) : Nat :=
  let c0_i32_73 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_72 : BitVec 32 := 16#32
  let v95 : BitVec 32 := Scalar.muli v2 c16_i32_72
  let v96 : BitVec 32 := Scalar.addi c0_i32_73 v95
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_74 : BitVec 32 := 4#32
  let v97 : BitVec 32 := Scalar.muli v19 c4_i32_74
  let v98 : BitVec 32 := Scalar.addi v96 v97
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_75 : BitVec 32 := 1#32
  let v99 : BitVec 32 := Scalar.muli v8 c1_i32_75
  let v100 : BitVec 32 := Scalar.addi v98 v99
  v100.toNat
def k0_dev5 (d0 : Dev nD) : Nat :=
  let c0_i32_114 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_113 : BitVec 32 := 16#32
  let v143 : BitVec 32 := Scalar.muli v2 c16_i32_113
  let v144 : BitVec 32 := Scalar.addi c0_i32_114 v143
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_115 : BitVec 32 := 4#32
  let v145 : BitVec 32 := Scalar.muli v19 c4_i32_115
  let v146 : BitVec 32 := Scalar.addi v144 v145
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_116 : BitVec 32 := 1#32
  let v147 : BitVec 32 := Scalar.muli v8 c1_i32_116
  let v148 : BitVec 32 := Scalar.addi v146 v147
  v148.toNat
def k0_off3 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_155 : BitVec 32 := 1#32
  let v196 : BitVec 32 := Scalar.addi v5 c1_i32_155
  let c4_i32_156 : BitVec 32 := 4#32
  let c0_i32_157 : BitVec 32 := 0#32
  let v197 : BitVec 1 := Scalar.cmpi .eq c4_i32_156 c0_i32_157
  let c1_i32_158 : BitVec 32 := 1#32
  let v198 : BitVec 32 := Scalar.select v197 c1_i32_158 c4_i32_156
  let v199 : BitVec 32 := Scalar.remsi v196 v198
  let c0_i32_160 : BitVec 32 := 0#32
  let v201 : BitVec 1 := Scalar.cmpi .slt v199 c0_i32_160
  let c0_i32_161 : BitVec 32 := 0#32
  let v202 : BitVec 1 := Scalar.cmpi .slt v198 c0_i32_161
  let v203 : BitVec 1 := Scalar.xori v201 v202
  let c0_i32_159 : BitVec 32 := 0#32
  let v200 : BitVec 1 := Scalar.cmpi .ne v199 c0_i32_159
  let v204 : BitVec 1 := Scalar.andi v203 v200
  let v205 : BitVec 32 := Scalar.addi v199 v198
  let v206 : BitVec 32 := Scalar.select v204 v205 v199
  let c1024_i32_162 : BitVec 32 := 1024#32
  let v207 : BitVec 32 := Scalar.muli v206 c1024_i32_162
  let c0_i32_163 : BitVec 32 := 0#32
  ![v207.toNat, 0]
def k0_dev6 (d0 : Dev nD) : Nat :=
  let c0_i32_168 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_167 : BitVec 32 := 16#32
  let v210 : BitVec 32 := Scalar.muli v2 c16_i32_167
  let v211 : BitVec 32 := Scalar.addi c0_i32_168 v210
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_169 : BitVec 32 := 4#32
  let v212 : BitVec 32 := Scalar.muli v19 c4_i32_169
  let v213 : BitVec 32 := Scalar.addi v211 v212
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_170 : BitVec 32 := 1#32
  let v214 : BitVec 32 := Scalar.muli v8 c1_i32_170
  let v215 : BitVec 32 := Scalar.addi v213 v214
  v215.toNat
def k0_off4 (d0 : Dev nD) (c0_i32_192 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v242 : BitVec 32 := Scalar.subi v5 c0_i32_192
  let c4_i32_193 : BitVec 32 := 4#32
  let c0_i32_194 : BitVec 32 := 0#32
  let v243 : BitVec 1 := Scalar.cmpi .eq c4_i32_193 c0_i32_194
  let c1_i32_195 : BitVec 32 := 1#32
  let v244 : BitVec 32 := Scalar.select v243 c1_i32_195 c4_i32_193
  let v245 : BitVec 32 := Scalar.remsi v242 v244
  let c0_i32_197 : BitVec 32 := 0#32
  let v247 : BitVec 1 := Scalar.cmpi .slt v245 c0_i32_197
  let c0_i32_198 : BitVec 32 := 0#32
  let v248 : BitVec 1 := Scalar.cmpi .slt v244 c0_i32_198
  let v249 : BitVec 1 := Scalar.xori v247 v248
  let c0_i32_196 : BitVec 32 := 0#32
  let v246 : BitVec 1 := Scalar.cmpi .ne v245 c0_i32_196
  let v250 : BitVec 1 := Scalar.andi v249 v246
  let v251 : BitVec 32 := Scalar.addi v245 v244
  let v252 : BitVec 32 := Scalar.select v250 v251 v245
  let c1024_i32_199 : BitVec 32 := 1024#32
  let v253 : BitVec 32 := Scalar.muli v252 c1024_i32_199
  let c0_i32_200 : BitVec 32 := 0#32
  ![v253.toNat, 0]
def k0_dev7 (d0 : Dev nD) : Nat :=
  let c0_i32_207 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_206 : BitVec 32 := 16#32
  let v256 : BitVec 32 := Scalar.muli v2 c16_i32_206
  let v257 : BitVec 32 := Scalar.addi c0_i32_207 v256
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_208 : BitVec 32 := 4#32
  let v258 : BitVec 32 := Scalar.muli v19 c4_i32_208
  let v259 : BitVec 32 := Scalar.addi v257 v258
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_209 : BitVec 32 := 1#32
  let v260 : BitVec 32 := Scalar.muli v8 c1_i32_209
  let v261 : BitVec 32 := Scalar.addi v259 v260
  v261.toNat
def k0_dev8 (d0 : Dev nD) : Nat :=
  let c0_i32_253 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_252 : BitVec 32 := 16#32
  let v308 : BitVec 32 := Scalar.muli v2 c16_i32_252
  let v309 : BitVec 32 := Scalar.addi c0_i32_253 v308
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_254 : BitVec 32 := 4#32
  let v310 : BitVec 32 := Scalar.muli v19 c4_i32_254
  let v311 : BitVec 32 := Scalar.addi v309 v310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_255 : BitVec 32 := 1#32
  let v312 : BitVec 32 := Scalar.muli v8 c1_i32_255
  let v313 : BitVec 32 := Scalar.addi v311 v312
  v313.toNat
-- ==== ReferenceIdeal.lean ====
abbrev S4096 : Shape := ⟨1, ![4096]⟩
abbrev S32768x2048 : Shape := ⟨2, ![32768, 2048]⟩
abbrev S_ : Shape := ⟨0, ![]⟩
abbrev S4096x1 : Shape := ⟨2, ![4096, 1]⟩
abbrev S4096x2048 : Shape := ⟨2, ![4096, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096, .i32⟩
  | .hbm, ⟨1, _⟩ => ⟨S32768x2048, .bf16⟩
  | .hbm, ⟨2, _⟩ => ⟨S_, .i32⟩
  | .hbm, ⟨3, _⟩ => ⟨S4096, .i32⟩
  | .hbm, ⟨4, _⟩ => ⟨S4096, .i1⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S4096x1, .i32⟩
  | .hbm, ⟨10, _⟩ => ⟨S4096x2048, .bf16⟩
  | .hbm, ⟨11, _⟩ => ⟨S4096x2048, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Ring.lean ====
/- THE RING of `KernelIdeal`'s body: device `c` of the 2 × 4 × 4 mesh stands at `(c / 16, c / 4 % 4, c % 4)`, and talks to the two devices
   that differ from it by one along the middle axis `y`, cyclically. Here: the two neighbours and the permutation "one step to the right";
   that the body's printed device ids and row offsets are these neighbours and multiples of 1024 rows; the six slots of the landing buffer;
   the semaphore cells. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen
open Idealize.ShloMosaic Idealize.ShloMosaic.TcCoe

/-! ## The neighbours -/

/-- The place of device `c` along the ring. -/
def yOf (c : Dev nD) : ℕ := c.val / 4 % 4

/-- The device whose `y` is one more (cyclically): the one `c` sends to. -/
def right (c : Dev nD) : Dev nD := ⟨16 * (c.val / 16) + 4 * ((c.val / 4 % 4 + 1) % 4) + c.val % 4, by
  have h : c.val < 32 := c.isLt
  show _ < 32
  omega⟩
/-- The device whose `y` is one less: the one `c` receives from. -/
def left (c : Dev nD) : Dev nD := ⟨16 * (c.val / 16) + 4 * ((c.val / 4 % 4 + 3) % 4) + c.val % 4, by
  have h : c.val < 32 := c.isLt
  show _ < 32
  omega⟩

theorem right_left (c : Dev nD) : right (left c) = c := by revert c; decide
theorem left_right (c : Dev nD) : left (right c) = c := by revert c; decide
theorem right_ne_left (c : Dev nD) : right c ≠ left c := by revert c; decide

/-- One step to the right, as a permutation of the devices. -/
def ring : Dev nD ≃ Dev nD := ⟨right, left, left_right, right_left⟩

theorem yOf_left (c : Dev nD) : yOf (left c) = (yOf c + 3) % 4 := by revert c; decide
theorem yOf_lt (c : Dev nD) : yOf c < 4 := Nat.mod_lt _ (by decide)

theorem dev1_eq (c : Dev nD) : (⟨k0_dev1 c, k0_dev1_lt c⟩ : Dev nD) = left c := by revert c; decide +kernel
theorem dev2_eq (c : Dev nD) : (⟨k0_dev2 c, k0_dev2_lt c⟩ : Dev nD) = right c := by revert c; decide +kernel
theorem dev3_eq (c : Dev nD) : (⟨k0_dev3 c, k0_dev3_lt c⟩ : Dev nD) = right c := by revert c; decide +kernel
theorem dev4_eq (c : Dev nD) : (⟨k0_dev4 c, k0_dev4_lt c⟩ : Dev nD) = right c := by revert c; decide +kernel
theorem dev5_eq (c : Dev nD) : (⟨k0_dev5 c, k0_dev5_lt c⟩ : Dev nD) = right c := by revert c; decide +kernel
theorem dev6_eq (c : Dev nD) : (⟨k0_dev6 c, k0_dev6_lt c⟩ : Dev nD) = right c := by revert c; decide +kernel
theorem dev7_eq (c : Dev nD) : (⟨k0_dev7 c, k0_dev7_lt c⟩ : Dev nD) = right c := by revert c; decide +kernel
theorem dev8_eq (c : Dev nD) : (⟨k0_dev8 c, k0_dev8_lt c⟩ : Dev nD) = right c := by revert c; decide +kernel

/-! ## The row offsets -/

theorem off1_at (c : Dev nD) : k0_off1 c = ![1024 * yOf c, 0] := k0_off1_eq c
theorem off2_at (c : Dev nD) (r : Fin 3) : k0_off2 c (BitVec.ofNat 32 r.val) = ![1024 * ((yOf c + 3 - r.val) % 4), 0] := by
  revert c r; decide +kernel
theorem off3_at (c : Dev nD) : k0_off3 c = ![1024 * ((yOf c + 1) % 4), 0] := by revert c; decide +kernel
theorem off4_at (c : Dev nD) (r : Fin 3) : k0_off4 c (BitVec.ofNat 32 r.val) = ![1024 * ((yOf c + 4 - r.val) % 4), 0] := by
  revert c r; decide +kernel

/-! ## The buffers and the slots -/

abbrev pM : Memref sig .tc .hbm S4096x2048 .bf16 := Memref.whole main_v22
abbrev oM : Memref sig .tc .hbm S4096x2048 .f32 := Memref.whole main_v23
abbrev sM : Memref sig .tc .vmem S1024x2048 .bf16 := Memref.whole cc0_scratch0
abbrev cM : Memref sig .tc .vmem S1024x2048 .bf16 := Memref.whole cc0_scratch1
abbrev gM : Memref sig .tc .vmem S1024x2048 .f32 := Memref.whole cc0_scratch2
abbrev rM : Memref sig .tc .vmem S6x1024x2048 .bf16 := Memref.whole cc0_scratch3

theorem slot_inb (k : Fin 6) : ∀ a, (![k.val, 0, 0] : Fin 3 → ℕ) a + S1x1024x2048.size a ≤ S6x1024x2048.size a := by
  revert k; decide

/-- Slot `k` of the landing buffer as a box of it, and as the 1024 × 2048 array a copy fills. -/
abbrev slotR (k : Fin 6) : Rect S6x1024x2048 := Rect.unit (s := S6x1024x2048) ![k.val, 0, 0] S1x1024x2048.size (slot_inb k)
abbrev slotM (k : Fin 6) : Memref sig .tc .vmem S1024x2048 .bf16 :=
  (rM.slice (slotR k) (fun _ => rfl)).squeeze S1024x2048 squeezes_S1x1024x2048_S1024x2048

/-! ## The cells -/

/-- The semaphore a copy into slot `k` credits at its source, and the one at its target. -/
def sendS (k : Fin 6) : DmaSem sig := ⟨k.val, by have := k.isLt; show _ < 14; omega⟩
def recvS (k : Fin 6) : DmaSem sig := ⟨6 + k.val, by have := k.isLt; show _ < 14; omega⟩
abbrev inS : DmaSem sig := cc0_scratch6.sem
abbrev outS : DmaSem sig := cc0_scratch7.sem
abbrev barS : Sem sig := (SemArray.scalar (sig.barrier 0 rfl) : Sems sig S_).sem

abbrev barCell (c : Dev nD) : GSem nD τ sig := ((c : Thread nD τ), .reg barS)
abbrev sendCell (k : Fin 6) (c : Dev nD) : GSem nD τ sig := ((c : Thread nD τ), .dma (sendS k))
abbrev recvCell (k : Fin 6) (c : Dev nD) : GSem nD τ sig := ((c : Thread nD τ), .dma (recvS k))

/-- What a copy of one slot credits. -/
abbrev N : ℕ := sM.view.dmaCredit
theorem N_pos : 0 < N := View.dmaCredit_pos _ (by decide)

end Cert.KernelIdeal.Ring

end
-- ==== Proof.Protocol.lean ====
/- THE PROTOCOL of `KernelIdeal`'s body, as a schedule of rounds: who pays which semaphore, how much, and what the payment hands over, WITH THE CONTENTS of each
   landing. `P c` is the array of partial rows that device `c` starts from.
   - The barrier cell of `c` is paid one unit by each neighbour. The right neighbour's unit hands over its six landing slots (so that `c` may copy
     into them) and that its six receive cells stand at round 0; the left neighbour's hands over nothing.
   - The receive cell `k` of `c` is paid by the left neighbour's `k`-th copy, which hands over slot `k` of `c` holding `landed P k c`.
   - The send cell `k` of `c` is paid by `c`'s own `k`-th copy, which hands back the copy's source.
   Levels: a device waits for its barrier while it owes receives only, and for receive `k` while it owes receives after `k` only. -/
module

public import proofs.«01_k».proof.Proof.Ring

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra -/

/-- The pipeline library's component, the rounds' (two payers a cell, told apart by a truth value), and the local copies' counters. -/
abbrev UU : Type := UR sig nD τ × (URounds (GSem nD τ sig) Bool × Counters)

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := Emb.inl.trans embR

/-! ## Contents -/

variable (P : Dev nD → (main_v22 : Ref sig .tc).ty.Contents (Elt F))

/-- The 1024 rows of `c`'s partial array that start at `off`. -/
def rowsAt (c : Dev nD) (off : Fin 2 → ℕ) (h : ∀ a, off a + S1024x2048.size a ≤ S4096x2048.size a) : FVec F S1024x2048 .bf16 :=
  (pM.slice (Rect.unit (s := S4096x2048) off S1024x2048.size h) (fun _ => rfl)).view.read (Elt F) (P c)

/-- What the `k`-th copy out of `c` carries: its own chunk first; then, while the sums are formed, what has just landed plus its own next chunk;
    then what has just landed. -/
def sent : ℕ → Dev nD → FVec F S1024x2048 .bf16
  | 0, c => rowsAt P c (k0_off1 c) (k0_off1_inb c)
  | s + 1, c => if h : s < 3 then addf (sent s (left c)) (rowsAt P c (k0_off2 c (BitVec.ofNat 32 s)) (k0_off2_inb c ⟨s, h⟩)) else sent s (left c)

/-- What lands in slot `k` of `c`. -/
def landed (k : ℕ) (c : Dev nD) : FVec F S1024x2048 .bf16 := sent P k (left c)

theorem sent_sum (s : Fin 3) (c : Dev nD) :
    sent P (s.val + 1) c = addf (landed P s.val c) (rowsAt P c (k0_off2 c (BitVec.ofNat 32 s.val)) (k0_off2_inb c s)) := by
  rw [sent, dif_pos s.isLt, landed]
theorem sent_pass (s : ℕ) (hs : 3 ≤ s) (c : Dev nD) : sent P (s + 1) c = landed P s c := by
  rw [sent, dif_neg (by omega), landed]

/-! ## The points-to facts the protocol passes round -/

variable {sp : Space} {sh : Shape} {e : EltTy}

/-- Memref `M` of device `c` holding `X`. -/
def holds (M : Memref sig .tc sp sh e) (c : Dev nD) (X : sh.Idx → Elt F e) : sProp 𝕄 :=
  iprop(∃ f, ⌜M.view.read (Elt F) f = X⌝ ∗ M.view.loc (c : Thread nD τ) ↦[M.view.set]{fullShare} f)
/-- Memref `M` of device `c` at any contents. -/
def holdsAny (M : Memref sig .tc sp sh e) (c : Dev nD) : sProp 𝕄 :=
  iprop(∃ f, M.view.loc (c : Thread nD τ) ↦[M.view.set]{fullShare} f)

instance holds_storable (M : Memref sig .tc sp sh e) (c : Dev nD) (X) : BI.Storable (upEmb : UEmb _ 𝕄) (holds (F := F) M c X) := by
  unfold holds; infer_instance
instance holdsAny_storable (M : Memref sig .tc sp sh e) (c : Dev nD) : BI.Storable (upEmb : UEmb _ 𝕄) (holdsAny (F := F) M c) := by
  unfold holdsAny; infer_instance

theorem holds_any (M : Memref sig .tc sp sh e) (c : Dev nD) (X) : holds (F := F) M c X ⊢ holdsAny M c := by
  unfold holds holdsAny
  iintro ⟨%f, -, H⟩
  iexists f; iexact H

theorem holdsAny_intro (M : Memref sig .tc sp sh e) (c : Dev nD) (f) :
    (M.view.loc (c : Thread nD τ) ↦[M.view.set]{fullShare} f : sProp 𝕄) ⊢ holdsAny M c := by
  unfold holdsAny
  iintro H
  iexists f; iexact H
theorem holds_intro (M : Memref sig .tc sp sh e) (c : Dev nD) (f) {X : sh.Idx → Elt F e} (h : M.view.read (Elt F) f = X) :
    (M.view.loc (c : Thread nD τ) ↦[M.view.set]{fullShare} f : sProp 𝕄) ⊢ holds M c X := by
  unfold holds
  iintro H
  iexists f
  isplitr; · ipureintro; exact h
  iexact H

/-- What the right neighbour's barrier unit hands `c`. -/
def barPay (c : Dev nD) : sProp 𝕄 :=
  bigSep Finset.univ fun k : Fin 6 => iprop(holdsAny (slotM k) (right c) ∗ reached ER (recvCell k (right c)) 0)
/-- What the end of the `k`-th copy out of `c` hands back: the source, which is the sum buffer for the first four copies and the slot that landed
    just before for the other two. -/
def sendPay (k : Fin 6) (c : Dev nD) : sProp 𝕄 := if h : k.val < 4 then holdsAny sM c else holdsAny (slotM ⟨k.val - 1, by omega⟩) c
/-- What the landing of copy `k` hands `c`. -/
def recvPay (k : Fin 6) (c : Dev nD) : sProp 𝕄 := holds (slotM k) c (landed P k.val c)

instance sendPay_storable (k : Fin 6) (c : Dev nD) : BI.Storable (upEmb : UEmb _ 𝕄) (sendPay (F := F) k c) := by
  unfold sendPay; split <;> infer_instance
instance recvPay_storable (k : Fin 6) (c : Dev nD) : BI.Storable (upEmb : UEmb _ 𝕄) (recvPay P k c) := by unfold recvPay; infer_instance
instance barPay_storable (c : Dev nD) : BI.Storable (upEmb : UEmb _ 𝕄) (barPay (F := F) c) := by unfold barPay; infer_instance

/-! ## The schedule -/

/-- The cells of the protocol, told apart by their semaphore. -/
inductive CellKind | bar | snd (k : Fin 6) | rcv (k : Fin 6) | none
  deriving DecidableEq

def kind : SemLoc sig → CellKind
  | .reg _ => .bar
  | .dma q => if h : q.val < 6 then .snd ⟨q.val, h⟩ else if h : q.val - 6 < 6 then .rcv ⟨q.val - 6, h⟩ else .none

theorem kind_bar : kind (.reg barS) = .bar := rfl
theorem kind_snd (k : Fin 6) : kind (.dma (sendS k)) = .snd k := by revert k; decide
theorem kind_rcv (k : Fin 6) : kind (.dma (recvS k)) = .rcv k := by revert k; decide

/-- One round. The barrier's two duties: `true`, paid by the right neighbour, and `false`, by the left; a copy's cell has the one duty `true`. -/
def ringRd : Rounds.Schedule (GSem nD τ sig) Bool 𝕄 where
  duties g r := if r = 0 ∧ g.1.2 = .tc then (match kind g.2 with | .bar => Finset.univ | .snd _ => {true} | .rcv _ => {true} | .none => ∅) else ∅
  unitless _ := False
  amount g _ _ := match kind g.2 with | .bar => 1 | _ => N
  payload g _ d := match kind g.2 with
    | .bar => if d then barPay g.1.1 else iprop(emp)
    | .snd k => sendPay k g.1.1
    | .rcv k => recvPay P k g.1.1
    | .none => iprop(emp)
  amount_pos g _ _ _ := by split <;> [exact Nat.one_pos; exact N_pos]

instance ringRd_payload_storable (g : GSem nD τ sig) (r : ℕ) (d : Bool) : BI.Storable (upEmb : UEmb _ 𝕄) ((ringRd (F := F) P).payload g r d) := by
  show BI.Storable upEmb (match kind g.2 with
    | .bar => if d then barPay g.1.1 else iprop(emp)
    | .snd k => sendPay k g.1.1
    | .rcv k => recvPay P k g.1.1
    | .none => iprop(emp))
  (repeat' split) <;> infer_instance

section Sched
variable (k : Fin 6) (c : Dev nD)

theorem duties_bar : (ringRd P).duties (barCell c) 0 = Finset.univ := by dsimp only [ringRd]; rw [if_pos ⟨rfl, rfl⟩, kind_bar]
theorem duties_snd : (ringRd P).duties (sendCell k c) 0 = {true} := by dsimp only [ringRd]; rw [if_pos ⟨rfl, rfl⟩, kind_snd]
theorem duties_rcv : (ringRd P).duties (recvCell k c) 0 = {true} := by dsimp only [ringRd]; rw [if_pos ⟨rfl, rfl⟩, kind_rcv]
theorem duties_later (g : GSem nD τ sig) : ∀ r, 1 ≤ r → (ringRd P).duties g r = ∅ :=
  fun r hr => by dsimp only [ringRd]; exact if_neg fun h => by omega

theorem amount_bar (d : Bool) : (ringRd P).amount (barCell c) 0 d = 1 := by dsimp only [ringRd]; rw [kind_bar]
theorem amount_snd (d : Bool) : (ringRd P).amount (sendCell k c) 0 d = N := by dsimp only [ringRd]; rw [kind_snd]
theorem amount_rcv (d : Bool) : (ringRd P).amount (recvCell k c) 0 d = N := by dsimp only [ringRd]; rw [kind_rcv]

theorem expect_bar : (ringRd P).expect (barCell c) 0 = 2 := by
  unfold Schedule.expect Schedule.amountOf
  rw [duties_bar, Finset.sum_congr rfl fun d _ => amount_bar P c d]; rfl
theorem expect_snd : (ringRd P).expect (sendCell k c) 0 = N := by
  unfold Schedule.expect Schedule.amountOf; rw [duties_snd, Finset.sum_singleton, amount_snd]
theorem expect_rcv : (ringRd P).expect (recvCell k c) 0 = N := by
  unfold Schedule.expect Schedule.amountOf; rw [duties_rcv, Finset.sum_singleton, amount_rcv]

theorem payload_bar_right : (ringRd P).payload (barCell c) 0 true = barPay c := by dsimp only [ringRd]; rw [kind_bar]; exact if_pos rfl
theorem payload_bar_left : (ringRd P).payload (barCell c) 0 false = iprop(emp) := by
  dsimp only [ringRd]; rw [kind_bar]; exact if_neg Bool.false_ne_true
theorem payload_snd (d : Bool) : (ringRd P).payload (sendCell k c) 0 d = sendPay k c := by dsimp only [ringRd]; rw [kind_snd]
theorem payload_rcv (d : Bool) : (ringRd P).payload (recvCell k c) 0 d = recvPay P k c := by dsimp only [ringRd]; rw [kind_rcv]

theorem rest_bar : bigSep ((ringRd P).duties (barCell c) 0 \ ∅) (fun d => (ringRd P).payload (barCell c) 0 d) ⊢ barPay c := by
  rw [Finset.sdiff_empty, duties_bar]
  refine (bigSep_subset (Finset.subset_univ {true})).trans ?_
  rw [bigSep_singleton, payload_bar_right]; exact BI.Entails.refl _
theorem rest_snd : bigSep ((ringRd P).duties (sendCell k c) 0 \ ∅) (fun d => (ringRd P).payload (sendCell k c) 0 d) = sendPay k c := by
  rw [Finset.sdiff_empty, duties_snd, bigSep_singleton, payload_snd]
theorem rest_rcv : bigSep ((ringRd P).duties (recvCell k c) 0 \ ∅) (fun d => (ringRd P).payload (recvCell k c) 0 d) = recvPay P k c := by
  rw [Finset.sdiff_empty, duties_rcv, bigSep_singleton, payload_rcv]

end Sched

/-! ## What a device owes; the levels -/

/-- The receives of the right neighbour that `c` still owes when `j` of its six copies are to come: the last `j`. -/
def rem (c : Dev nD) : ℕ → CellTallies nD τ sig Unit
  | 0 => 0
  | j + 1 => rem c j + tallyAt (recvCell ⟨5 - j, by omega⟩ (right c)) () N

theorem rem_succ (c : Dev nD) (k : Fin 6) : rem c (5 - k.val + 1) = rem c (5 - k.val) + tallyAt (recvCell k (right c)) () N := by
  revert k; intro k; fin_cases k <;> rfl

/-- What `c` owes at launch: the six receives of its right neighbour, and a barrier unit to each neighbour. -/
def O₀ (c : Dev nD) : CellTallies nD τ sig Unit := (rem c 6 + tallyAt (barCell (right c)) () 1) + tallyAt (barCell (left c)) () 1

def L (g : GSem nD τ sig) : Finset Unit := if g.1.2 = .tc then {()} else ∅
def lv (g : GSem nD τ sig) (_ : Unit) : ℕ := match kind g.2 with | .bar => 1 | .rcv k => 2 + k.val | _ => 0
theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by dsimp only [lv]; rw [kind_bar]
theorem lv_snd (k : Fin 6) (c : Dev nD) : lv (sendCell k c) () = 0 := by dsimp only [lv]; rw [kind_snd]
theorem lv_rcv (k : Fin 6) (c : Dev nD) : lv (recvCell k c) () = 2 + k.val := by dsimp only [lv]; rw [kind_rcv]

/-- A cell that is still owed is a receive cell among the last `j`. -/
theorem rem_pos {c : Dev nD} {j : ℕ} {g : GSem nD τ sig} {u : Unit} (h : 0 < rem c j g u) :
    ∃ k : Fin 6, 6 ≤ k.val + j ∧ g = recvCell k (right c) := by
  induction j with
  | zero => exact absurd h (Nat.lt_irrefl 0)
  | succ j ih =>
    rw [rem, Pi.add_apply, Finsupp.add_apply, tallyAt_apply] at h
    by_cases hg : g = recvCell ⟨5 - j, by omega⟩ (right c) ∧ u = ()
    · exact ⟨⟨5 - j, by omega⟩, by show 6 ≤ 5 - j + (j + 1); omega, hg.1⟩
    · rw [if_neg hg, add_zero] at h
      obtain ⟨k, hk, e⟩ := ih h
      exact ⟨k, by omega, e⟩
theorem O₀_pos {c : Dev nD} {g : GSem nD τ sig} {u : Unit} (h : 0 < O₀ c g u) :
    (∃ k : Fin 6, g = recvCell k (right c)) ∨ g = barCell (right c) ∨ g = barCell (left c) := by
  by_contra hn
  rw [not_or, not_or] at hn
  rw [O₀, Pi.add_apply, Finsupp.add_apply, Pi.add_apply, Finsupp.add_apply, tallyAt_apply, tallyAt_apply, if_neg (fun h' => hn.2.1 h'.1),
    if_neg (fun h' => hn.2.2 h'.1), add_zero, add_zero] at h
  obtain ⟨k, _, e⟩ := rem_pos h
  exact hn.1 ⟨k, e⟩

/-- A wait at a cell of level below every receive still owed is allowed. -/
theorem mayWait_rem (c : Dev nD) (sm : SemLoc sig) (j : ℕ) (hl : lv ((c : Thread nD τ), sm) () + j < 8) :
    (levAts L lv : sProp 𝕄) ⊢ MayWait (c : Thread nD τ) sm () (rem c j) := by
  refine MayOwe.of_cut (L := L) (lev := lv) (lv ((c : Thread nD τ), sm) ()) (fun p hp => by rw [Finset.mem_singleton.mp hp, L_tc]; exact Finset.mem_singleton_self _)
    (fun g u hg => by obtain ⟨k, _, rfl⟩ := rem_pos hg; exact Finset.mem_singleton_self _)
    (fun p hp => by rw [Finset.mem_singleton.mp hp])
    (fun g u hg => by
      obtain ⟨k, hk, rfl⟩ := rem_pos hg
      rw [lv_rcv]; omega)
/-- A wait at a cell of level 0 is allowed whatever of the launch's debt remains. -/
theorem mayWait_O₀ (c : Dev nD) (sm : SemLoc sig) (hl : lv ((c : Thread nD τ), sm) () = 0) :
    (levAts L lv : sProp 𝕄) ⊢ MayWait (c : Thread nD τ) sm () (O₀ c) := by
  refine MayOwe.of_cut (L := L) (lev := lv) 0 (fun p hp => by rw [Finset.mem_singleton.mp hp, L_tc]; exact Finset.mem_singleton_self _)
    (fun g u hg => by rcases O₀_pos hg with ⟨k, rfl⟩ | rfl | rfl <;> exact Finset.mem_singleton_self _)
    (fun p hp => by rw [Finset.mem_singleton.mp hp]; exact hl.le)
    (fun g u hg => by
      rcases O₀_pos hg with ⟨k, rfl⟩ | rfl | rfl
      · rw [lv_rcv]; omega
      · rw [lv_bar]; omega
      · rw [lv_bar]; omega)

end Cert.KernelIdeal.Ring

end
-- ==== Proof.Steps.lean ====
/- ONE RULE A KIND OF OPERATION of the body, in the protocol's terms: a copy to the right neighbour, the waits for its two ends, a copy of rows of the
   partial array into a buffer, a copy of the stage into rows of the output, and the loads and stores of whole buffers. -/
module

public import proofs.«01_k».proof.Proof.Protocol

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells and their records -/

/-- The scoped semaphores: the copies' twelve, and the two of the local copies. -/
abbrev osem : Fin 14 → SemLoc sig := fun j => .dma (⟨j.val, j.isLt⟩ : Fin 14)
/-- The twelve of the protocol. -/
abbrev psem (j : Fin 12) : SemLoc sig := osem (j.castLE (by decide))

theorem osem_inj : Function.Injective osem := by decide
theorem psem_inj : Function.Injective psem := by decide
theorem psem_ne_bar : ∀ j : Fin 12, psem j ≠ .reg barS := by decide

def barEmb : Dev nD ↪ GSem nD τ sig := ⟨fun c => barCell c, fun _ _ h => congrArg (fun g : GSem nD τ sig => g.1.1) h⟩
def scEmb : Dev nD × Fin 12 ↪ GSem nD τ sig :=
  ⟨fun ck => ((ck.1 : Thread nD τ), psem ck.2), fun _ _ h =>
    Prod.ext (congrArg (fun g : GSem nD τ sig => g.1.1) h) (psem_inj (congrArg Prod.snd h))⟩

abbrev barCells : Finset (GSem nD τ sig) := Finset.univ.map barEmb
abbrev scCells : Finset (GSem nD τ sig) := Finset.univ.map scEmb

theorem bar_mem (c : Dev nD) : barCell c ∈ (barCells ∪ scCells : Finset (GSem nD τ sig)) :=
  Finset.mem_union_left _ (Finset.mem_map_of_mem barEmb (Finset.mem_univ c))
theorem send_mem (k : Fin 6) (c : Dev nD) : sendCell k c ∈ (barCells ∪ scCells : Finset (GSem nD τ sig)) :=
  Finset.mem_union_right _ (Finset.mem_map.mpr ⟨(c, k.castLE (by decide)), Finset.mem_univ _, rfl⟩)
theorem recv_mem (k : Fin 6) (c : Dev nD) : recvCell k c ∈ (barCells ∪ scCells : Finset (GSem nD τ sig)) :=
  Finset.mem_union_right _ (Finset.mem_map.mpr ⟨(c, ⟨6 + k.val, by omega⟩), Finset.mem_univ _, rfl⟩)

variable (P : Dev nD → (main_v22 : Ref sig .tc).ty.Contents (Elt F))

/-- Every cell follows the schedule. -/
def records (κ : GSem nD τ sig → ℕ) : sProp 𝕄 := bigSep (barCells ∪ scCells) fun g => cellInv ER (ringRd P) (κ g) g
instance records_persistent (κ : GSem nD τ sig → ℕ) : BI.Persistent (records P κ) := by unfold records; infer_instance

theorem record_at (κ : GSem nD τ sig → ℕ) {g : GSem nD τ sig} (hg : g ∈ (barCells ∪ scCells : Finset (GSem nD τ sig))) :
    records P κ ⊢ cellInv ER (ringRd P) (κ g) g := by unfold records; exact bigSep_elim hg

/-! ## The shapes the rules have -/

abbrev 𝒱₀ : Variants := Variants.none

/-- The run of `p` on device `c`'s core. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- `c` owes the last `j` receives of its right neighbour. -/
def owing (c : Dev nD) (O : CellTallies nD τ sig Unit) : sProp 𝕄 := iprop(∃ W, owes (c : Thread nD τ) O W)

/-! ## The copies to the right neighbour -/

theorem wp_send (κ : GSem nD τ sig → ℕ) (k : Fin 6) (j : ℕ) (hj : j = 5 - k.val) (c n : Dev nD) (hn : n = right c)
    (src : Memref sig .tc .vmem S1024x2048 .bf16)
    (hback : (holdsAny src c : sProp 𝕄) ⊢ sendPay k c)
    {hsc : (slotM k : Memref sig (Dev.tc n : Thread nD τ).2.kind .vmem S1024x2048 .bf16).view.ref.isScScratch = false}
    {hsrc : src.view.WordExact} {hdst : (slotM k).view.WordExact}
    {hsem : DmaTarget.Typed .vmem (.dma (recvS k)) (.remote (Dev.tc n : Thread nD τ) (slotM k) (.dma (sendS k)) hsc)}
    {α : Type} {Q : α → sProp 𝕄} {kt : PUnit → Prog (TpuEff nD τ sig (Elt F) Λ₀ .tc) α} :
    iprop(records P κ ∗ holds src c (sent P k.val c) ∗ holdsAny (slotM k) (right c) ∗ owing c (rem c (j + 1))
        ∗ dutyTok ER (sendCell k c) 0 true ∗ reached ER (sendCell k c) 0
        ∗ dutyTok ER (recvCell k (right c)) 0 true ∗ reached ER (recvCell k (right c)) 0)
      ⊢ iprop(((cred (tallyAt (sendCell k c) () N) ∗ owing c (rem c j)) -∗ WP c (kt ⟨⟩) Q)
          -∗ WP c (.op (.enqueueDma src (.remote (Dev.tc n : Thread nD τ) (slotM k) (.dma (sendS k)) hsc) (.dma (recvS k)) hsrc hdst hsem) kt) Q) := by
  subst hn hj
  unfold holds holdsAny owing
  iintro ⟨#HI, ⟨%fs, %hfs, Hs⟩, ⟨%fd, Hd⟩, ⟨%W, HO⟩, Ht, Hr, Ht', Hr'⟩ Hk
  ihave #HI1 := (record_at P κ (send_mem k c)) $$ HI
  ihave #HI2 := (record_at P κ (recv_mem k (right c))) $$ HI
  iapply (Rounds.wp_send_pointsTo 𝒱₀ ER (ringRd P) (c : Thread nD τ) none (κ₁ := κ (sendCell k c)) (κ₂ := κ (recvCell k (right c)))
    (r₁ := 0) (r₂ := 0) (d₁ := true) (d₂ := true) (fd := fd) (fs := fs)
    (by rw [duties_snd]; exact Finset.mem_singleton_self _) (by rw [duties_rcv]; exact Finset.mem_singleton_self _)
    () () N rfl (amount_snd P k c true) (amount_rcv P k (right c) true) (rem c (5 - k.val))
    (rem_succ c k) (W := W) (by rw [payload_snd]; exact (holdsAny_intro src c fs).trans hback)
    (by
      rw [payload_rcv]
      exact holds_intro (slotM k) (right c) _ (by rw [View.read_write_univ, hfs, landed, left_right]))) $$ [Hs Hd HO Ht Hr Ht' Hr']
  · isplitr; · iexact HI1
    isplitr; · iexact HI2
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iintro ⟨Hc, HO⟩
  iapply Hk
  isplitl [Hc]; · iexact Hc
  iexists W; iexact HO

/-! ## The waits for a copy's two ends -/

theorem wp_wait_send (κ : GSem nD τ sig → ℕ) (k : Fin 6) (j : ℕ) (hj : j < 8) (c : Dev nD)
    {sp sp' : Space} {s s' : Shape} {e e' : EltTy} {κ' : Idealize.ShloMosaic.Kind} {srcw : Memref sig .tc sp s e} {dstw : Memref sig κ' sp' s' e'} (hN : dstw.view.dmaCredit = N)
    {hsrc : srcw.view.WordExact} {hdst : dstw.view.WordExact}
    {α : Type} {Q : α → sProp 𝕄} {kt : PUnit → Prog (TpuEff nD τ sig (Elt F) Λ₀ .tc) α} :
    iprop(records P κ ∗ levAts L lv ∗ cred (tallyAt (sendCell k c) () N) ∗ owing c (rem c j) ∗ atPos ER (sendCell k c) 0 ∅ 0)
      ⊢ iprop(((semVal (sendCell k c) 0 ∗ owing c (rem c j) ∗ sendPay k c) -∗ WP c (kt ⟨⟩) Q)
          -∗ WP c (.op (.waitDma2 (sendS k) srcw dstw hsrc hdst) kt) Q) := by
  unfold owing
  iintro ⟨#HI, #Hlev, Hc, ⟨%W, HO⟩, Hat⟩ Hk
  ihave #HI1 := (record_at P κ (send_mem k c)) $$ HI
  iapply (Rounds.wp_wait_rest_token 𝒱₀ ER (ringRd P) (c : Thread nD τ) none (κ := κ (sendCell k c))
      (wpE_waitDma2_eq 𝒱₀ (c : Thread nD τ) none Set.univ) (Set.mem_univ _) () (O := rem c j) (W := W) (R := 0) (m := 0) (T := ∅)
      (by rw [Nat.zero_add, expect_snd, hN])) $$ [Hc HO Hat]
  · isplitr; · iexact HI1
    isplitl [Hc]; · rw [hN]; iexact Hc
    isplitl [HO]; · iexact HO
    isplitr; · iapply (mayWait_rem c (.dma (sendS k)) j (by rw [lv_snd]; omega)); iexact Hlev
    iexact Hat
  iintro ⟨HO, Hat, -, Hpay⟩
  ihave Hp := (Entails.of_eq (rest_snd P k c)) $$ Hpay
  imod (Rounds.cell_close ER (ringRd P) (Set.mem_univ (κ (sendCell k c))) (fun h => h) (R := 0 + 1) (duties_later P (sendCell k c))) $$ [Hat] with Hz
  · isplitr; · iexact HI1
    iexact Hat
  iapply Hk
  isplitl [Hz]; · iexact Hz
  isplitl [HO]; · iexists _; iexact HO
  iexact Hp

theorem wp_wait_recv (κ : GSem nD τ sig → ℕ) (k : Fin 6) (j : ℕ) (hj : k.val + j < 6) (c : Dev nD)
    {sp sp' : Space} {s s' : Shape} {e e' : EltTy} {κ' : Idealize.ShloMosaic.Kind} {srcw : Memref sig .tc sp s e} {dstw : Memref sig κ' sp' s' e'} (hN : dstw.view.dmaCredit = N)
    {hsrc : srcw.view.WordExact} {hdst : dstw.view.WordExact}
    {α : Type} {Q : α → sProp 𝕄} {kt : PUnit → Prog (TpuEff nD τ sig (Elt F) Λ₀ .tc) α} :
    iprop(records P κ ∗ levAts L lv ∗ cred (tallyAt (recvCell k c) () N) ∗ owing c (rem c j) ∗ atPos ER (recvCell k c) 0 ∅ 0)
      ⊢ iprop(((semVal (recvCell k c) 0 ∗ owing c (rem c j) ∗ holds (slotM k) c (landed P k.val c)) -∗ WP c (kt ⟨⟩) Q)
          -∗ WP c (.op (.waitDma2 (recvS k) srcw dstw hsrc hdst) kt) Q) := by
  unfold owing
  iintro ⟨#HI, #Hlev, Hc, ⟨%W, HO⟩, Hat⟩ Hk
  ihave #HI1 := (record_at P κ (recv_mem k c)) $$ HI
  iapply (Rounds.wp_wait_rest_token 𝒱₀ ER (ringRd P) (c : Thread nD τ) none (κ := κ (recvCell k c))
      (wpE_waitDma2_eq 𝒱₀ (c : Thread nD τ) none Set.univ) (Set.mem_univ _) () (O := rem c j) (W := W) (R := 0) (m := 0) (T := ∅)
      (by rw [Nat.zero_add, expect_rcv, hN])) $$ [Hc HO Hat]
  · isplitr; · iexact HI1
    isplitl [Hc]; · rw [hN]; iexact Hc
    isplitl [HO]; · iexact HO
    isplitr; · iapply (mayWait_rem c (.dma (recvS k)) j (by rw [lv_rcv]; omega)); iexact Hlev
    iexact Hat
  iintro ⟨HO, Hat, -, Hpay⟩
  ihave Hp := (Entails.of_eq (rest_rcv P k c)) $$ Hpay
  imod (Rounds.cell_close ER (ringRd P) (Set.mem_univ (κ (recvCell k c))) (fun h => h) (R := 0 + 1) (duties_later P (recvCell k c))) $$ [Hat] with Hz
  · isplitr; · iexact HI1
    iexact Hat
  iapply Hk
  isplitl [Hz]; · iexact Hz
  isplitl [HO]; · iexists _; iexact HO
  unfold recvPay
  iexact Hp

/-! ## The barrier -/

/-- The unit to the left neighbour hands over this device's six slots. -/
theorem wp_signal_left (κ : GSem nD τ sig → ℕ) (c n : Dev nD) (hn : n = left c)
    {α : Type} {Q : α → sProp 𝕄} {kt : PUnit → Prog (TpuEff nD τ sig (Elt F) Λ₀ .tc) α} :
    iprop(records P κ ∗ owing c (O₀ c) ∗ dutyTok ER (barCell (left c)) 0 true ∗ reached ER (barCell (left c)) 0
        ∗ bigSep Finset.univ (fun k : Fin 6 => iprop(holdsAny (slotM k) c ∗ reached ER (recvCell k c) 0)))
      ⊢ iprop((owing c (rem c 6 + tallyAt (barCell (right c)) () 1) -∗ WP c (kt ⟨⟩) Q)
          -∗ WP c (.op (.semSignal (n : Thread nD τ) barS (BitVec.toNat 1#32)) kt) Q) := by
  subst hn
  unfold owing
  iintro ⟨#HI, ⟨%W, HO⟩, Ht, Hr, Hpay⟩ Hk
  ihave #HI1 := (record_at P κ (bar_mem (left c))) $$ HI
  iapply (Rounds.wp_signal 𝒱₀ ER (ringRd P) (c : Thread nD τ) none (dst := (left c : Thread nD τ)) (κ := κ (barCell (left c))) (d := true)
      (by rw [duties_bar]; exact Finset.mem_univ _) ((amount_bar P (left c) true).trans (by decide)) () (rem c 6 + tallyAt (barCell (right c)) () 1) rfl)
    $$ [HO Ht Hr Hpay]
  · isplitr; · iexact HI1
    isplitl [HO]; · iexact HO
    isplitl [Ht]; · iexact Ht
    isplitl [Hpay]
    · rw [payload_bar_right]; unfold barPay; rw [right_left]
      iexact Hpay
    · iexact Hr
  iintro HO
  iapply Hk
  iexists W; iexact HO

theorem wp_signal_right (κ : GSem nD τ sig → ℕ) (c n : Dev nD) (hn : n = right c)
    {α : Type} {Q : α → sProp 𝕄} {kt : PUnit → Prog (TpuEff nD τ sig (Elt F) Λ₀ .tc) α} :
    iprop(records P κ ∗ owing c (rem c 6 + tallyAt (barCell (right c)) () 1) ∗ dutyTok ER (barCell (right c)) 0 false ∗ reached ER (barCell (right c)) 0)
      ⊢ iprop((owing c (rem c 6) -∗ WP c (kt ⟨⟩) Q)
          -∗ WP c (.op (.semSignal (n : Thread nD τ) barS (BitVec.toNat 1#32)) kt) Q) := by
  subst hn
  unfold owing
  iintro ⟨#HI, ⟨%W, HO⟩, Ht, Hr⟩ Hk
  ihave #HI1 := (record_at P κ (bar_mem (right c))) $$ HI
  iapply (Rounds.wp_signal 𝒱₀ ER (ringRd P) (c : Thread nD τ) none (dst := (right c : Thread nD τ)) (κ := κ (barCell (right c))) (d := false)
      (by rw [duties_bar]; exact Finset.mem_univ _) ((amount_bar P (right c) false).trans (by decide)) () (rem c 6) rfl)
    $$ [HO Ht Hr]
  · isplitr; · iexact HI1
    isplitl [HO]; · iexact HO
    isplitl [Ht]; · iexact Ht
    isplitr
    · rw [payload_bar_left]; iempintro
    · iexact Hr
  iintro HO
  iapply Hk
  iexists W; iexact HO

/-- The wait for both neighbours' units: the right neighbour's six slots come with it. -/
theorem wp_wait_bar (κ : GSem nD τ sig → ℕ) (c : Dev nD)
    {α : Type} {Q : α → sProp 𝕄} {kt : PUnit → Prog (TpuEff nD τ sig (Elt F) Λ₀ .tc) α} :
    iprop(records P κ ∗ levAts L lv ∗ cred (tallyAt (barCell c) () 2) ∗ owing c (rem c 6) ∗ atPos ER (barCell c) 0 ∅ 0)
      ⊢ iprop(((semVal (barCell c) 0 ∗ owing c (rem c 6) ∗ barPay c) -∗ WP c (kt ⟨⟩) Q)
          -∗ WP c (.op (.semWait barS (BitVec.toNat 2#32)) kt) Q) := by
  unfold owing
  iintro ⟨#HI, #Hlev, Hc, ⟨%W, HO⟩, Hat⟩ Hk
  ihave #HI1 := (record_at P κ (bar_mem c)) $$ HI
  iapply (Rounds.wp_wait_rest_token 𝒱₀ ER (ringRd P) (c : Thread nD τ) none (κ := κ (barCell c))
      (wpE_semWait_eq 𝒱₀ (c : Thread nD τ) none Set.univ) (Set.mem_univ _) () (O := rem c 6) (W := W) (R := 0) (m := 0) (T := ∅)
      (by rw [expect_bar]; decide)) $$ [Hc HO Hat]
  · isplitr; · iexact HI1
    isplitl [Hc]; · iexact Hc
    isplitl [HO]; · iexact HO
    isplitr; · iapply (mayWait_rem c (.reg barS) 6 (by rw [lv_bar]; omega)); iexact Hlev
    iexact Hat
  iintro ⟨HO, Hat, -, Hpay⟩
  ihave Hp := (rest_bar P c) $$ Hpay
  imod (Rounds.cell_close ER (ringRd P) (Set.mem_univ (κ (barCell c))) (fun h => h) (R := 0 + 1) (duties_later P (barCell c))) $$ [Hat] with Hz
  · isplitr; · iexact HI1
    iexact Hat
  iapply Hk
  isplitl [Hz]; · iexact Hz
  isplitl [HO]; · iexists _; iexact HO
  iexact Hp

end Cert.KernelIdeal.Ring

end
-- ==== Proof.Moves.lean ====
/- THE LOCAL OPERATIONS of the body: a copy of 1024 rows of the partial array into a buffer, a copy of the stage into 1024 rows of the output, and the
   loads and stores of whole buffers and of one landing slot. -/
module

public import proofs.«01_k».proof.Proof.Steps

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (P : Dev nD → (main_v22 : Ref sig .tc).ty.Contents (Elt F))

/-! ## Rows of the partial array into a buffer -/

abbrev RowsOff (off : Fin 2 → ℕ) : Prop := ∀ a, off a + S1024x2048.size a ≤ S4096x2048.size a

/-- 1024 rows of the partial array, and of the output, from `off`. -/
abbrev pRows (off : Fin 2 → ℕ) (h : RowsOff off) : Memref sig .tc .hbm S1024x2048 .bf16 :=
  pM.slice (Rect.unit (s := S4096x2048) off S1024x2048.size h) (fun _ => rfl)
abbrev oRows (off : Fin 2 → ℕ) (h : RowsOff off) : Memref sig .tc .hbm S1024x2048 .f32 :=
  oM.slice (Rect.unit (s := S4096x2048) off S1024x2048.size h) (fun _ => rfl)

/-- The partial array of `c`, whole. -/
def partialPts (c : Dev nD) : sProp 𝕄 := pM.view.loc (c : Thread nD τ) ↦[Finset.univ]{fullShare} P c

/-- The copy of the rows from `off` into `M` is under way. -/
def pulling (M : Memref sig .tc .vmem S1024x2048 .bf16) (c : Dev nD) (off : Fin 2 → ℕ) (h : RowsOff off) : sProp 𝕄 :=
  iprop(∃ f, ⌜M.view.read (Elt F) f = rowsAt P c off h⌝
    ∗ Flight countersEmb (c : Thread nD τ) (.dma inS) () N
        iprop((M.view.loc (c : Thread nD τ) ↦[M.view.set]{fullShare} f)
          ∗ ((pRows off h).view.loc (c : Thread nD τ) ↦[(pRows off h).view.set]{fullShare} P c))
    ∗ (pM.view.loc (c : Thread nD τ) ↦[Finset.univ \ (pRows off h).view.set]{fullShare} P c))

theorem wp_pull (M : Memref sig .tc .vmem S1024x2048 .bf16) (hM : M.view.dmaCredit = N) (c : Dev nD) (off : Fin 2 → ℕ) (h : RowsOff off)
    {hsrc : (pRows off h).view.WordExact} {hdst : M.view.WordExact} {hsem : DmaTarget.Typed .hbm (.dma inS) (DmaTarget.here M : DmaTarget nD τ sig (Proc.tc : Proc τ) .vmem S1024x2048 .bf16)}
    {α : Type} {Q : α → sProp 𝕄} {kt : PUnit → Prog (TpuEff nD τ sig (Elt F) Λ₀ .tc) α} :
    iprop(partialPts P c ∗ holdsAny M c ∗ semVal ((c : Thread nD τ), .dma inS) 0)
      ⊢ iprop((pulling P M c off h -∗ WP c (kt ⟨⟩) Q)
          -∗ WP c (.op (.enqueueDma (pRows off h) (.here M) (.dma inS) hsrc hdst hsem) kt) Q) := by
  unfold partialPts holdsAny
  iintro ⟨HP, ⟨%fd, Hd⟩, Hz⟩ Hk
  ihave HP2 := (pointsTo_split_subset (Finset.subset_univ (pRows off h).view.set)).1 $$ HP
  icases HP2 with ⟨HP1, HPr⟩
  iapply (wp_dmaLocal countersEmb 𝒱₀ (c : Thread nD τ) none (src := pRows off h) (via := .same) (dst := M) () N (show M.view.amount (.dma inS) = N from hM) N_pos (Finset.Subset.refl _)) $$ [HP1 Hd Hz]
  · isplitl [HP1]; · iexact HP1
    isplitl [Hd]; · iexact Hd
    iexact Hz
  iintro Hf
  iapply Hk
  unfold pulling
  iexists _
  isplitr
  rotate_left
  · isplitl [Hf]; · iexact Hf
    iexact HPr
  ipureintro
  rw [View.read_write_univ]; rfl

theorem wp_pulled (M : Memref sig .tc .vmem S1024x2048 .bf16) (c : Dev nD) (off : Fin 2 → ℕ) (h : RowsOff off) (j : ℕ) (hj : j < 8)
    {sp sp' : Space} {s s' : Shape} {e e' : EltTy} {κ' : Idealize.ShloMosaic.Kind} {srcw : Memref sig .tc sp s e} {dstw : Memref sig κ' sp' s' e'} (hN : dstw.view.dmaCredit = N)
    {hsrc : srcw.view.WordExact} {hdst : dstw.view.WordExact}
    {α : Type} {Q : α → sProp 𝕄} {kt : PUnit → Prog (TpuEff nD τ sig (Elt F) Λ₀ .tc) α} :
    iprop(levAts L lv ∗ pulling P M c off h ∗ owing c (rem c j))
      ⊢ iprop(((partialPts P c ∗ holds M c (rowsAt P c off h) ∗ semVal ((c : Thread nD τ), .dma inS) 0 ∗ owing c (rem c j)) -∗ WP c (kt ⟨⟩) Q)
          -∗ WP c (.op (.waitDma2 inS srcw dstw hsrc hdst) kt) Q) := by
  unfold pulling owing
  iintro ⟨#Hlev, ⟨%f, %hf, Hf, HPr⟩, ⟨%W, HO⟩⟩ Hk
  iapply (wp_waitLocalO countersEmb 𝒱₀ (c : Thread nD τ) none () hN) $$ [Hf HO]
  · isplitl [Hf]; · iexact Hf
    isplitl [HO]; · iexact HO
    iapply (mayWait_rem c (.dma inS) j (by show 0 + j < 8; omega)); iexact Hlev
  iintro ⟨⟨HM, HP1⟩, Hz, HO⟩
  iapply Hk
  isplitl [HP1 HPr]
  · unfold partialPts
    iapply (pointsTo_split_subset (Finset.subset_univ (pRows off h).view.set)).2
    isplitl [HP1]; · iexact HP1
    iexact HPr
  isplitl [HM]; · iapply (holds_intro M c f hf); iexact HM
  isplitl [Hz]; · iexact Hz
  iexists _; iexact HO

/-! ## The stage into rows of the output -/

/-- The output of `c`, whole, holding `f`. -/
def outPts (c : Dev nD) (f : (main_v23 : Ref sig .tc).ty.Contents (Elt F)) : sProp 𝕄 := oM.view.loc (c : Thread nD τ) ↦[Finset.univ]{fullShare} f

/-- The output `f` with the rows from `off` set to `X`. -/
def setRows (f : (main_v23 : Ref sig .tc).ty.Contents (Elt F)) (off : Fin 2 → ℕ) (h : RowsOff off) (X : FVec F S1024x2048 .f32) :
    (main_v23 : Ref sig .tc).ty.Contents (Elt F) := (oRows off h).view.write (Elt F) f X Finset.univ

/-- What a copy of the stage credits. -/
abbrev N' : ℕ := gM.view.dmaCredit
theorem N'_pos : 0 < N' := View.dmaCredit_pos _ (by decide)

def pushing (c : Dev nD) (f : (main_v23 : Ref sig .tc).ty.Contents (Elt F)) : sProp 𝕄 :=
  iprop(∃ fs, Flight countersEmb (c : Thread nD τ) (.dma outS) () N' iprop(outPts c f ∗ (gM.view.loc (c : Thread nD τ) ↦[gM.view.set]{fullShare} fs)))

theorem wp_push (c : Dev nD) (off : Fin 2 → ℕ) (h : RowsOff off) (f : (main_v23 : Ref sig .tc).ty.Contents (Elt F)) (X : FVec F S1024x2048 .f32)
    {hsrc : gM.view.WordExact} {hdst : (oRows off h).view.WordExact} {hsem : DmaTarget.Typed .vmem (.dma outS) (DmaTarget.here (oRows off h) : DmaTarget nD τ sig (Proc.tc : Proc τ) .hbm S1024x2048 .f32)}
    {α : Type} {Q : α → sProp 𝕄} {kt : PUnit → Prog (TpuEff nD τ sig (Elt F) Λ₀ .tc) α} :
    iprop(outPts c f ∗ holds gM c X ∗ semVal ((c : Thread nD τ), .dma outS) 0)
      ⊢ iprop((pushing c (setRows f off h X) -∗ WP c (kt ⟨⟩) Q)
          -∗ WP c (.op (.enqueueDma gM (.here (oRows off h)) (.dma outS) hsrc hdst hsem) kt) Q) := by
  unfold outPts holds
  iintro ⟨Hd, ⟨%fs, %hfs, Hs⟩, Hz⟩ Hk
  iapply (wp_dmaLocal countersEmb 𝒱₀ (c : Thread nD τ) none (src := gM) (via := .same) (dst := oRows off h) () N' rfl N'_pos (Finset.subset_univ _)) $$ [Hs Hd Hz]
  · isplitl [Hs]; · iexact Hs
    isplitl [Hd]; · iexact Hd
    iexact Hz
  iintro Hf
  iapply Hk
  unfold pushing
  iexists fs
  rw [← hfs]
  iexact Hf

theorem wp_pushed (c : Dev nD) (f : (main_v23 : Ref sig .tc).ty.Contents (Elt F)) (j : ℕ) (hj : j < 8)
    {sp sp' : Space} {s s' : Shape} {e e' : EltTy} {κ' : Idealize.ShloMosaic.Kind} {srcw : Memref sig .tc sp s e} {dstw : Memref sig κ' sp' s' e'} (hN : dstw.view.dmaCredit = N')
    {hsrc : srcw.view.WordExact} {hdst : dstw.view.WordExact}
    {α : Type} {Q : α → sProp 𝕄} {kt : PUnit → Prog (TpuEff nD τ sig (Elt F) Λ₀ .tc) α} :
    iprop(levAts L lv ∗ pushing c f ∗ owing c (rem c j))
      ⊢ iprop(((outPts c f ∗ holdsAny gM c ∗ semVal ((c : Thread nD τ), .dma outS) 0 ∗ owing c (rem c j)) -∗ WP c (kt ⟨⟩) Q)
          -∗ WP c (.op (.waitDma2 outS srcw dstw hsrc hdst) kt) Q) := by
  unfold pushing owing
  iintro ⟨#Hlev, ⟨%fs, Hf⟩, ⟨%W, HO⟩⟩ Hk
  iapply (wp_waitLocalO countersEmb 𝒱₀ (c : Thread nD τ) none () hN) $$ [Hf HO]
  · isplitl [Hf]; · iexact Hf
    isplitl [HO]; · iexact HO
    iapply (mayWait_rem c (.dma outS) j (by show 0 + j < 8; omega)); iexact Hlev
  iintro ⟨⟨HM, HP1⟩, Hz, HO⟩
  iapply Hk
  isplitl [HM]; · iexact HM
  isplitl [HP1]; · iapply (holdsAny_intro gM c fs); iexact HP1
  isplitl [Hz]; · iexact Hz
  iexists _; iexact HO

/-! ## Loads and stores -/

/-- A load from a memref of which any contents are held: the value read is some value. -/
theorem wp_load_some {cs : CoreSpace} {sh : Shape} {e : EltTy} (M : Memref sig .tc cs sh e) (c : Dev nD) {r : LoadRect sh} {hl : M.view.LoadsAt r}
    {α : Type} {Q : α → sProp 𝕄} {kt : (r.shape.Idx → Elt F e) → Prog (TpuEff nD τ sig (Elt F) Λ₀ .tc) α} :
    holdsAny M c ⊢ iprop((∀ v, holdsAny M c -∗ WP c (kt v) Q) -∗ WP c (.op (.load M r hl) kt) Q) := by
  unfold holdsAny
  iintro ⟨%f, H⟩ Hk
  iapply (wp_load 𝒱₀ (c : Thread nD τ) none Set.univ (m := M) (View.setOn_subset_set _ _)) $$ [H]
  · iexact H
  iintro H
  iapply Hk
  iexists f; iexact H

theorem wp_load_holds {cs : CoreSpace} {sh : Shape} {e : EltTy} (M : Memref sig .tc cs sh e) (c : Dev nD) {r : LoadRect sh} {hl : M.view.LoadsAt r}
    {X : sh.Idx → Elt F e} {Y : r.shape.Idx → Elt F e} (hY : ∀ f, M.view.read (Elt F) f = X → M.view.readAt (Elt F) r f = Y)
    {α : Type} {Q : α → sProp 𝕄} {kt : (r.shape.Idx → Elt F e) → Prog (TpuEff nD τ sig (Elt F) Λ₀ .tc) α} :
    holds M c X ⊢ iprop((holds M c X -∗ WP c (kt Y) Q) -∗ WP c (.op (.load M r hl) kt) Q) := by
  unfold holds
  iintro ⟨%f, %hf, H⟩ Hk
  iapply (wp_load 𝒱₀ (c : Thread nD τ) none Set.univ (m := M) (View.setOn_subset_set _ _)) $$ [H]
  · iexact H
  rw [hY f hf]
  iintro H
  iapply Hk
  iexists f
  isplitr; · ipureintro; exact hf
  iexact H

/-- The elements of a slot, as a box of the landing buffer. -/
theorem slot_set (k : Fin 6) : (slotM k).view.set = (rM.access (slotR k)).set :=
  View.set_reshape (rM.view.slice (slotR k)) squeezes_S1x1024x2048_S1024x2048.numel_eq

/-- A load of slot `k` out of the landing buffer. -/
theorem wp_load_slot (k : Fin 6) (c : Dev nD) {hl : rM.view.LoadsAt (slotR k).toLoadRect} {X : FVec F S1024x2048 .bf16}
    {α : Type} {Q : α → sProp 𝕄} {kt : ((slotR k).toLoadRect.shape.Idx → Elt F .bf16) → Prog (TpuEff nD τ sig (Elt F) Λ₀ .tc) α} :
    holds (slotM k) c X ⊢ iprop((∀ v, ⌜shapeCast S1024x2048 v shapeCasts_S1x1024x2048_S1024x2048 = X⌝ -∗ holds (slotM k) c X -∗ WP c (kt v) Q)
        -∗ WP c (.op (.load rM (slotR k).toLoadRect hl) kt) Q) := by
  unfold holds
  iintro ⟨%f, %hf, H⟩ Hk
  iapply (wp_load_rect 𝒱₀ (c : Thread nD τ) none Set.univ (m := rM) (r := slotR k) (S := (slotM k).view.set) (f := f) (slot_set k).symm.subset) $$ [H]
  · iexact H
  iintro H
  iapply Hk $$ [] [H]
  · ipureintro; rw [← hf]; rfl
  iexists f
  isplitr; · ipureintro; exact hf
  iexact H

/-- A store over the whole of a memref. -/
theorem wp_store_holds {cs : CoreSpace} {sh : Shape} {e : EltTy} (M : Memref sig .tc cs sh e) (c : Dev nD) {r : Rect sh} {w : r.shape.Idx → Elt F e}
    {hx : (M.access r).Stores Finset.univ} {hm} {X : sh.Idx → Elt F e} (hX : ∀ f, M.view.read (Elt F) ((M.access r).write (Elt F) f w Finset.univ) = X)
    (hS : (M.access r).setOn Finset.univ ⊆ M.view.set)
    {α : Type} {Q : α → sProp 𝕄} {kt : PUnit → Prog (TpuEff nD τ sig (Elt F) Λ₀ .tc) α} :
    holdsAny M c ⊢ iprop((holds M c X -∗ WP c (kt ⟨⟩) Q) -∗ WP c (.op (.store M r w Finset.univ hx hm) kt) Q) := by
  unfold holds holdsAny
  iintro ⟨%f, H⟩ Hk
  iapply (wp_store 𝒱₀ (c : Thread nD τ) none Set.univ (m := M) (r := r) (S := M.view.set) (f := f) hS) $$ [H]
  · iexact H
  iintro H
  iapply Hk
  iexists _
  isplitr
  rotate_left
  · iexact H
  ipureintro; exact hX f

end Cert.KernelIdeal.Ring

end
-- ==== Proof.Body.lean ====
/- THE BODY on one device, at a symbolic device `c`: six copies round the ring, from the resources a device starts with to the output it leaves. -/
module

public import proofs.«01_k».proof.Proof.Moves
public import proofs.«01_k».proof.Proof.Gen.KernelIdeal.Points
public import Idealize.ShloMosaic.Lib.Pipeline.Value

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (P : Dev nD → (main_v22 : Ref sig .tc).ty.Contents (Elt F))

/-! ## The values the loads and stores see -/

theorem hz : (![0, 0] : Fin 2 → Nat) = fun _ => 0 := funext fun a => by fin_cases a <;> rfl

abbrev bR : Rect S1024x2048 := Rect.unit (s := S1024x2048) ![0, 0] S1024x2048.size inb_S1024x2048_S1024x2048_0_0

theorem read_sum (X : FVec F S1024x2048 .bf16) (f) (h : sM.view.read (Elt F) f = X) : sM.view.readAt (Elt F) bR.toLoadRect f = X :=
  (Memref.readAt_unit_zero (Elt F) cc0_scratch0 hz _ f).trans h
theorem read_chunk (X : FVec F S1024x2048 .bf16) (f) (h : cM.view.read (Elt F) f = X) : cM.view.readAt (Elt F) bR.toLoadRect f = X :=
  (Memref.readAt_unit_zero (Elt F) cc0_scratch1 hz _ f).trans h
theorem write_sum (w : FVec F S1024x2048 .bf16) (f) : sM.view.read (Elt F) ((sM.access bR).write (Elt F) f w Finset.univ) = w :=
  (View.read_whole (Val := Elt F) cc0_scratch0 _).trans (Memref.write_access_unit_zero_univ (Elt F) cc0_scratch0 hz _ f w)
theorem write_stage (w : FVec F S1024x2048 .f32) (f) : gM.view.read (Elt F) ((gM.access bR).write (Elt F) f w Finset.univ) = w :=
  (View.read_whole (Val := Elt F) cc0_scratch2 _).trans (Memref.write_access_unit_zero_univ (Elt F) cc0_scratch2 hz _ f w)
theorem sum_sub : (sM.access bR).setOn Finset.univ ⊆ sM.view.set := by rw [show sM.view.set = Finset.univ from View.set_whole _]; exact Finset.subset_univ _
theorem stage_sub : (gM.access bR).setOn Finset.univ ⊆ gM.view.set := by rw [show gM.view.set = Finset.univ from View.set_whole _]; exact Finset.subset_univ _

/-- A block widened to the output's type. -/
def wide (X : FVec F S1024x2048 .bf16) : FVec F S1024x2048 .f32 := extf .f32 X bitsLt_bf16_f32

theorem pay12 (v : Vec F S1x1024x2048 .bf16) (b X) (h : shapeCast S1024x2048 v shapeCasts_S1x1024x2048_S1024x2048 = X) :
    k0_pay2 (k0_pay1 (F := F) v b) = addf X b := by
  show shapeCast S1024x2048 (addf (shapeCast S1024x2048 v _) b) _ = _; rw [h, shapeCast_self]
theorem pay3 (v : Vec F S1x1024x2048 .bf16) (b X) (h : shapeCast S1024x2048 v shapeCasts_S1x1024x2048_S1024x2048 = X) :
    k0_pay3 (F := F) v b = addf X b := by
  show shapeCast S1024x2048 (addf (shapeCast S1024x2048 v _) b) _ = _; rw [h, shapeCast_self]
theorem pay4 (v : Vec F S1x1024x2048 .bf16) (b X) (h : shapeCast S1024x2048 v shapeCasts_S1x1024x2048_S1024x2048 = X) :
    k0_pay4 (F := F) v b = addf X b := by
  show shapeCast S1024x2048 (addf (shapeCast S1024x2048 v _) b) _ = _; rw [h, shapeCast_self]
theorem pay5 (v : Vec F S1024x2048 .bf16) : k0_pay5 (F := F) v = wide v := by
  show shapeCast S1024x2048 (wide v) _ = _; rw [shapeCast_self]
theorem pay6 (v : Vec F S1x1024x2048 .bf16) (X) (h : shapeCast S1024x2048 v shapeCasts_S1x1024x2048_S1024x2048 = X) : k0_pay6 (F := F) v = wide X := by
  show shapeCast S1024x2048 (wide (shapeCast S1024x2048 v _)) _ = _; rw [h, shapeCast_self]
theorem pay7 (v : Vec F S1x1024x2048 .bf16) (X) (h : shapeCast S1024x2048 v shapeCasts_S1x1024x2048_S1024x2048 = X) : k0_pay7 (F := F) v = wide X := by
  show shapeCast S1024x2048 (wide (shapeCast S1024x2048 v _)) _ = _; rw [h, shapeCast_self]
theorem pay8 (v : Vec F S1x1024x2048 .bf16) (X) (h : shapeCast S1024x2048 v shapeCasts_S1x1024x2048_S1024x2048 = X) : k0_pay8 (F := F) v = wide X := by
  show shapeCast S1024x2048 (wide (shapeCast S1024x2048 v _)) _ = _; rw [h, shapeCast_self]

/-! ## The run -/

/-- What `c` holds for copy `k`, apart from the slot it fills. -/
def tokens (k : Fin 6) (c : Dev nD) : sProp 𝕄 :=
  iprop(dutyTok ER (sendCell k c) 0 true ∗ reached ER (sendCell k c) 0 ∗ dutyTok ER (recvCell k (right c)) 0 true
    ∗ atPos ER (sendCell k c) 0 ∅ 0 ∗ atPos ER (recvCell k c) 0 ∅ 0 ∗ cred (tallyAt (recvCell k c) () N))

/-- The output that `c` leaves: the four chunks of the sum, each in its rows. -/
def outAfter (c : Dev nD) (f : (main_v23 : Ref sig .tc).ty.Contents (Elt F)) : (main_v23 : Ref sig .tc).ty.Contents (Elt F) :=
  setRows (setRows (setRows (setRows f (k0_off3 c) (k0_off3_inb c) (wide (sent P 3 c)))
    (k0_off4 c 0#32) (k0_off4_inb c 0) (wide (landed P 3 c)))
    (k0_off4 c 1#32) (k0_off4_inb c 1) (wide (landed P 4 c)))
    (k0_off4 c 2#32) (k0_off4_inb c 2) (wide (landed P 5 c))

/-- What the body starts from. -/
def bodyPre (c : Dev nD) (f : (main_v23 : Ref sig .tc).ty.Contents (Elt F)) : sProp 𝕄 :=
  iprop(atPos ER (barCell c) 0 ∅ 0 ∗ cred (tallyAt (barCell c) () 2)
    ∗ dutyTok ER (barCell (left c)) 0 true ∗ reached ER (barCell (left c)) 0
    ∗ dutyTok ER (barCell (right c)) 0 false ∗ reached ER (barCell (right c)) 0
    ∗ bigSep Finset.univ (fun k : Fin 6 => tokens k c)
    ∗ bigSep Finset.univ (fun k : Fin 6 => iprop(holdsAny (slotM k) c ∗ reached ER (recvCell k c) 0))
    ∗ semVal ((c : Thread nD τ), .dma inS) 0 ∗ semVal ((c : Thread nD τ), .dma outS) 0
    ∗ owing c (O₀ c) ∗ partialPts P c ∗ outPts c f ∗ holdsAny sM c ∗ holdsAny cM c ∗ holdsAny gM c)

/-- What it leaves. -/
def bodyPost (c : Dev nD) (f : (main_v23 : Ref sig .tc).ty.Contents (Elt F)) : sProp 𝕄 :=
  iprop(semVal (barCell c) 0 ∗ bigSep Finset.univ (fun k : Fin 6 => iprop(semVal (sendCell k c) 0 ∗ semVal (recvCell k c) 0))
    ∗ semVal ((c : Thread nD τ), .dma inS) 0 ∗ semVal ((c : Thread nD τ), .dma outS) 0
    ∗ owing c 0 ∗ partialPts P c ∗ outPts c (outAfter P c f) ∗ holdsAny sM c ∗ holdsAny cM c ∗ holdsAny gM c
    ∗ bigSep Finset.univ (fun k : Fin 6 => holdsAny (slotM k) c))

theorem outAfter_eq (c : Dev nD) (f : (main_v23 : Ref sig .tc).ty.Contents (Elt F)) :
    setRows (setRows (setRows (setRows f (k0_off3 c) (k0_off3_inb c) (k0_pay5 (sent P 3 c)))
      (k0_off4 c 0#32) (k0_off4_inb c 0) (wide (landed P 3 c)))
      (k0_off4 c 1#32) (k0_off4_inb c 1) (wide (landed P 4 c)))
      (k0_off4 c 2#32) (k0_off4_inb c 2) (wide (landed P 5 c)) = outAfter P c f := by
  rw [pay5]; rfl

theorem rem_zero (c : Dev nD) : rem c 0 = 0 := by
  unfold rem; simp

theorem bigSep_six (Φ : Fin 6 → sProp 𝕄) : bigSep Finset.univ Φ = iprop(Φ 0 ∗ Φ 1 ∗ Φ 2 ∗ Φ 3 ∗ Φ 4 ∗ Φ 5) := by
  rw [show (Finset.univ : Finset (Fin 6)) = insert 0 (insert 1 (insert 2 (insert 3 (insert 4 {5})))) from rfl, bigSep_insert (by decide),
    bigSep_insert (by decide), bigSep_insert (by decide), bigSep_insert (by decide), bigSep_insert (by decide), bigSep_singleton]
  rfl

/-- The first four copies read the sum buffer, the last two the slot before their own. -/
theorem sum_lend (k : Fin 6) (c : Dev nD) (hk : k.val < 4) : (holdsAny sM c : sProp 𝕄) ⊢ sendPay k c :=
  Entails.of_eq (by unfold sendPay; rw [dif_pos hk])
theorem sum_back (k : Fin 6) (c : Dev nD) (hk : k.val < 4) : (sendPay k c : sProp 𝕄) ⊢ holdsAny sM c :=
  Entails.of_eq (by unfold sendPay; rw [dif_pos hk])
theorem slot_lend (k k' : Fin 6) (c : Dev nD) (hk : ¬ k.val < 4) (h : k'.val = k.val - 1) : (holdsAny (slotM k') c : sProp 𝕄) ⊢ sendPay k c :=
  Entails.of_eq (by unfold sendPay; rw [dif_neg hk]; exact congrArg (fun x => holdsAny (slotM x) c) (Fin.ext h))
theorem slot_back (k k' : Fin 6) (c : Dev nD) (hk : ¬ k.val < 4) (h : k'.val = k.val - 1) : (sendPay k c : sProp 𝕄) ⊢ holdsAny (slotM k') c :=
  Entails.of_eq (by unfold sendPay; rw [dif_neg hk]; exact congrArg (fun x => holdsAny (slotM x) c) (Fin.ext h.symm))

/-- What the barrier pays, slot by slot. -/
theorem barPay_six (c : Dev nD) : (barPay c : sProp 𝕄)
    ⊢ iprop((holdsAny (slotM 0) (right c) ∗ reached ER (recvCell 0 (right c)) 0) ∗ (holdsAny (slotM 1) (right c) ∗ reached ER (recvCell 1 (right c)) 0)
      ∗ (holdsAny (slotM 2) (right c) ∗ reached ER (recvCell 2 (right c)) 0) ∗ (holdsAny (slotM 3) (right c) ∗ reached ER (recvCell 3 (right c)) 0)
      ∗ (holdsAny (slotM 4) (right c) ∗ reached ER (recvCell 4 (right c)) 0) ∗ (holdsAny (slotM 5) (right c) ∗ reached ER (recvCell 5 (right c)) 0)) := by
  unfold barPay
  exact Entails.of_eq (bigSep_six (fun k => iprop(holdsAny (slotM k) (right c) ∗ reached ER (recvCell k (right c)) 0)))

theorem sum_eq (k : Fin 6) (s : Fin 3) (hs : k.val = s.val) (c : Dev nD) :
    addf (landed P k.val c) (rowsAt P c (k0_off2 c (BitVec.ofNat 32 s.val)) (k0_off2_inb c s)) = sent P (k.val + 1) c := by
  rw [hs, sent_sum]

theorem chunk_credit : cM.view.dmaCredit = N := rfl
theorem slot_credit (k : Fin 6) : (slotM k).view.dmaCredit = N := rfl
theorem rows_credit (off : Fin 2 → ℕ) (h : RowsOff off) : (oRows off h).view.dmaCredit = N' := rfl

/-- ONE TURN OF THE SUM: copy `k` (of the first three) goes right while `c`'s own next chunk is fetched; both ends of the copy are awaited; what landed plus
    the chunk becomes the new sum buffer. -/
theorem wp_sum_turn (κ : GSem nD τ sig → ℕ) (k : Fin 6) (s : Fin 3) (hs : k.val = s.val) (j : ℕ) (hj : j = 5 - k.val) (c n : Dev nD) (hn : n = right c)
    (pay : Vec F S1x1024x2048 .bf16 → Vec F S1024x2048 .bf16 → FVec F S1024x2048 .bf16)
    (hpay : ∀ v b X, shapeCast S1024x2048 v shapeCasts_S1x1024x2048_S1024x2048 = X → pay v b = addf X b)
    {hsc : (slotM k : Memref sig (Dev.tc n : Thread nD τ).2.kind .vmem S1024x2048 .bf16).view.ref.isScScratch = false}
    {h₁ : sM.view.WordExact} {h₂ : (slotM k).view.WordExact}
    {h₃ : DmaTarget.Typed .vmem (.dma (recvS k)) (.remote (Dev.tc n : Thread nD τ) (slotM k) (.dma (sendS k)) hsc)}
    {h₄ : (pRows (k0_off2 c (BitVec.ofNat 32 s.val)) (k0_off2_inb c s)).view.WordExact} {h₅ : cM.view.WordExact}
    {h₆ : DmaTarget.Typed .hbm (.dma inS) (DmaTarget.here cM : DmaTarget nD τ sig (Proc.tc : Proc τ) .vmem S1024x2048 .bf16)}
    {h₇ h₈ h₉ h₁₀ h₁₁ h₁₂} {l₁ l₂ l₃} {x₁ x₂}
    {α : Type} {Q : α → sProp 𝕄} {kt : PUnit → Prog (TpuEff nD τ sig (Elt F) Λ₀ .tc) α} :
    iprop(records P κ ∗ levAts L lv ∗ tokens k c ∗ (holdsAny (slotM k) (right c) ∗ reached ER (recvCell k (right c)) 0)
        ∗ holds sM c (sent P k.val c) ∗ partialPts P c ∗ holdsAny cM c ∗ semVal ((c : Thread nD τ), .dma inS) 0 ∗ owing c (rem c (j + 1)))
      ⊢ iprop((((semVal (sendCell k c) 0 ∗ semVal (recvCell k c) 0) ∗ holdsAny (slotM k) c ∗ holds sM c (sent P (k.val + 1) c)
              ∗ partialPts P c ∗ holdsAny cM c ∗ semVal ((c : Thread nD τ), .dma inS) 0 ∗ owing c (rem c j)) -∗ WP c (kt ⟨⟩) Q)
          -∗ WP c (.op (.enqueueDma sM (.remote (Dev.tc n : Thread nD τ) (slotM k) (.dma (sendS k)) hsc) (.dma (recvS k)) h₁ h₂ h₃) fun _ =>
              .op (.enqueueDma (pRows (k0_off2 c (BitVec.ofNat 32 s.val)) (k0_off2_inb c s)) (.here cM) (.dma inS) h₄ h₅ h₆) fun _ =>
              .op (.waitDma2 inS (pRows (k0_off2 c (BitVec.ofNat 32 s.val)) (k0_off2_inb c s)) cM h₇ h₈) fun _ =>
              .op (.waitDma2 (sendS k) (slotM k) sM h₉ h₁₀) fun _ =>
              .op (.waitDma2 (recvS k) sM (slotM k) h₁₁ h₁₂) fun _ =>
              .op (.load rM (slotR k).toLoadRect l₁) fun v =>
              .op (.load cM bR.toLoadRect l₂) fun b =>
              .op (.load sM bR.toLoadRect l₃) fun _ =>
              .op (.store sM bR (pay v b) Finset.univ x₁ x₂) kt) Q) := by
  unfold tokens
  iintro ⟨#HI, #Hlev, ⟨HtS, HrS, HtV, HatS, HatV, HcV⟩, ⟨Hslot, HrV⟩, Hs, HP, Hc, HzI, HO⟩ Hk
  iapply (wp_send P κ k j hj c n hn sM (sum_lend k c (by omega))) $$ [Hs Hslot HO HtS HrS HtV HrV]
  · isplitr; · iexact HI
    isplitl [Hs]; · iexact Hs
    isplitl [Hslot]; · iexact Hslot
    isplitl [HO]; · iexact HO
    isplitl [HtS]; · iexact HtS
    isplitl [HrS]; · iexact HrS
    isplitl [HtV]; · iexact HtV
    iexact HrV
  iintro ⟨HcS, HO⟩
  iapply (wp_pull P cM rfl c _ (k0_off2_inb c s)) $$ [HP Hc HzI]
  · isplitl [HP]; · iexact HP
    isplitl [Hc]; · iexact Hc
    iexact HzI
  iintro Hpull
  iapply (wp_pulled P cM c _ (k0_off2_inb c s) j (by omega) chunk_credit) $$ [Hpull HO]
  · isplitr; · iexact Hlev
    isplitl [Hpull]; · iexact Hpull
    iexact HO
  iintro ⟨HP, Hc, HzI, HO⟩
  iapply (wp_wait_send P κ k j (by omega) c rfl) $$ [HcS HO HatS]
  · isplitr; · iexact HI
    isplitr; · iexact Hlev
    isplitl [HcS]; · iexact HcS
    isplitl [HO]; · iexact HO
    iexact HatS
  iintro ⟨HzS, HO, Hs⟩
  iapply (wp_wait_recv P κ k j (by omega) c (slot_credit k)) $$ [HcV HO HatV]
  · isplitr; · iexact HI
    isplitr; · iexact Hlev
    isplitl [HcV]; · iexact HcV
    isplitl [HO]; · iexact HO
    iexact HatV
  iintro ⟨HzV, HO, Hv⟩
  iapply (wp_load_slot k c) $$ Hv
  iintro %v %hv Hv
  iapply (wp_load_holds cM c (read_chunk _)) $$ Hc
  iintro Hc
  ihave Hs' := (sum_back k c (by omega)) $$ Hs
  iapply (wp_load_some sM c) $$ Hs'
  iintro %u Hs
  iapply (wp_store_holds sM c (write_sum _) sum_sub) $$ Hs
  iintro Hs
  iapply Hk
  isplitl [HzS HzV]
  · isplitl [HzS]; · iexact HzS
    iexact HzV
  isplitl [Hv]; · iapply (holds_any _ c _); iexact Hv
  isplitl [Hs]
  · iapply (Entails.of_eq (congrArg (holds sM c) ((hpay v _ _ hv).trans (sum_eq P k s hs c)))); iexact Hs
  isplitl [HP]; · iexact HP
  isplitl [Hc]; · iapply (holds_any _ c _); iexact Hc
  isplitl [HzI]; · iexact HzI
  iexact HO

/-- ONE TURN OF THE SPREADING: copy `k` (of the last three) goes right out of `src`; both its ends are awaited; what landed is widened into the stage and
    copied into the output's rows from `off`. -/
theorem wp_spread_turn (κ : GSem nD τ sig → ℕ) (k : Fin 6) (j : ℕ) (hj : j = 5 - k.val) (c n : Dev nD) (hn : n = right c)
    (src : Memref sig .tc .vmem S1024x2048 .bf16) (hback : (holdsAny src c : sProp 𝕄) ⊢ sendPay k c) (hback' : (sendPay k c : sProp 𝕄) ⊢ holdsAny src c)
    (off : Fin 2 → ℕ) (h : RowsOff off) (f : (main_v23 : Ref sig .tc).ty.Contents (Elt F))
    (pay : Vec F S1x1024x2048 .bf16 → FVec F S1024x2048 .f32)
    (hpay : ∀ v X, shapeCast S1024x2048 v shapeCasts_S1x1024x2048_S1024x2048 = X → pay v = wide X)
    {wsrc wdst : Memref sig .tc .vmem S1024x2048 .bf16} {vsrc vdst : Memref sig .tc .vmem S1024x2048 .bf16}
    (hN₁ : wdst.view.dmaCredit = N) (hN₂ : vdst.view.dmaCredit = N)
    {hsc : (slotM k : Memref sig (Dev.tc n : Thread nD τ).2.kind .vmem S1024x2048 .bf16).view.ref.isScScratch = false}
    {h₁ : src.view.WordExact} {h₂ : (slotM k).view.WordExact}
    {h₃ : DmaTarget.Typed .vmem (.dma (recvS k)) (.remote (Dev.tc n : Thread nD τ) (slotM k) (.dma (sendS k)) hsc)}
    {h₄ h₅ h₆ h₇} {l₁ l₂} {x₁ x₂} {h₈ : gM.view.WordExact} {h₉ : (oRows off h).view.WordExact}
    {h₁₀ : DmaTarget.Typed .vmem (.dma outS) (DmaTarget.here (oRows off h) : DmaTarget nD τ sig (Proc.tc : Proc τ) .hbm S1024x2048 .f32)} {h₁₁ h₁₂}
    {α : Type} {Q : α → sProp 𝕄} {kt : PUnit → Prog (TpuEff nD τ sig (Elt F) Λ₀ .tc) α} :
    iprop(records P κ ∗ levAts L lv ∗ tokens k c ∗ (holdsAny (slotM k) (right c) ∗ reached ER (recvCell k (right c)) 0)
        ∗ holds src c (sent P k.val c) ∗ outPts c f ∗ holdsAny gM c ∗ semVal ((c : Thread nD τ), .dma outS) 0 ∗ owing c (rem c (j + 1)))
      ⊢ iprop((((semVal (sendCell k c) 0 ∗ semVal (recvCell k c) 0) ∗ holdsAny src c ∗ holds (slotM k) c (landed P k.val c)
              ∗ outPts c (setRows f off h (wide (landed P k.val c))) ∗ holdsAny gM c ∗ semVal ((c : Thread nD τ), .dma outS) 0 ∗ owing c (rem c j))
            -∗ WP c (kt ⟨⟩) Q)
          -∗ WP c (.op (.enqueueDma src (.remote (Dev.tc n : Thread nD τ) (slotM k) (.dma (sendS k)) hsc) (.dma (recvS k)) h₁ h₂ h₃) fun _ =>
              .op (.waitDma2 (sendS k) wsrc wdst h₄ h₅) fun _ =>
              .op (.waitDma2 (recvS k) vsrc vdst h₆ h₇) fun _ =>
              .op (.load rM (slotR k).toLoadRect l₁) fun v =>
              .op (.load gM bR.toLoadRect l₂) fun _ =>
              .op (.store gM bR (pay v) Finset.univ x₁ x₂) fun _ =>
              .op (.enqueueDma gM (.here (oRows off h)) (.dma outS) h₈ h₉ h₁₀) fun _ =>
              .op (.waitDma2 outS gM (oRows off h) h₁₁ h₁₂) kt) Q) := by
  unfold tokens
  iintro ⟨#HI, #Hlev, ⟨HtS, HrS, HtV, HatS, HatV, HcV⟩, ⟨Hslot, HrV⟩, Hs, Hout, Hg, HzO, HO⟩ Hk
  iapply (wp_send P κ k j hj c n hn src hback) $$ [Hs Hslot HO HtS HrS HtV HrV]
  · isplitr; · iexact HI
    isplitl [Hs]; · iexact Hs
    isplitl [Hslot]; · iexact Hslot
    isplitl [HO]; · iexact HO
    isplitl [HtS]; · iexact HtS
    isplitl [HrS]; · iexact HrS
    isplitl [HtV]; · iexact HtV
    iexact HrV
  iintro ⟨HcS, HO⟩
  iapply (wp_wait_send P κ k j (by omega) c hN₁) $$ [HcS HO HatS]
  · isplitr; · iexact HI
    isplitr; · iexact Hlev
    isplitl [HcS]; · iexact HcS
    isplitl [HO]; · iexact HO
    iexact HatS
  iintro ⟨HzS, HO, Hs⟩
  iapply (wp_wait_recv P κ k j (by omega) c hN₂) $$ [HcV HO HatV]
  · isplitr; · iexact HI
    isplitr; · iexact Hlev
    isplitl [HcV]; · iexact HcV
    isplitl [HO]; · iexact HO
    iexact HatV
  iintro ⟨HzV, HO, Hv⟩
  iapply (wp_load_slot k c) $$ Hv
  iintro %v %hv Hv
  iapply (wp_load_some gM c) $$ Hg
  iintro %u Hg
  iapply (wp_store_holds gM c (write_stage _) stage_sub) $$ Hg
  iintro Hg
  iapply (wp_push c off h f) $$ [Hout Hg HzO]
  · isplitl [Hout]; · iexact Hout
    isplitl [Hg]; · iexact Hg
    iexact HzO
  iintro Hpush
  iapply (wp_pushed c _ j (by omega) (rows_credit off h)) $$ [Hpush HO]
  · isplitr; · iexact Hlev
    isplitl [Hpush]; · iexact Hpush
    iexact HO
  iintro ⟨Hout, Hg, HzO, HO⟩
  iapply Hk
  isplitl [HzS HzV]
  · isplitl [HzS]; · iexact HzS
    iexact HzV
  isplitl [Hs]; · iapply hback'; iexact Hs
  isplitl [Hv]; · iexact Hv
  isplitl [Hout]
  · rw [hpay v _ hv]
    iexact Hout
  isplitl [Hg]; · iexact Hg
  isplitl [HzO]; · iexact HzO
  iexact HO

set_option maxHeartbeats 4000000 in
theorem sound_body (κ : GSem nD τ sig → ℕ) (c : Dev nD) (f : (main_v23 : Ref sig .tc).ty.Contents (Elt F)) (Kt : PUnit → sProp 𝕄) :
    iprop(records P κ ∗ levAts L lv ∗ bodyPre P c f ∗ (bodyPost P c f -∗ Kt ⟨⟩)) ⊢ WP c (bodyAt0 t0_0) Kt := by
  unfold bodyPre WP
  dsimp only [bodyAt0]
  simp only [cc0__ar_body_eq_skeleton]; unfold cc0__ar_body_skel
  simp only [k0_part12_eq_skeleton]; unfold k0_part12_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  simp only [semSignalWord, semWaitWord, Prog.lift, Prog.bind_op, Prog.bind_ret, Prog.pure_eq_ret, wp_deviceId]
  rw [bigSep_six (fun k => tokens k c)]
  iintro ⟨#HI, #Hlev, ⟨HatB, HcB, HtL, HrL, HtR, HrR, ⟨Hk0, Hk1, Hk2, Hk3, Hk4, Hk5⟩, Hslots, HzI, HzO, HO, HP, Hout, Hs, Hc, Hg⟩, Hk⟩
  simp only [dev1_eq c, dev2_eq c, dev3_eq c, dev4_eq c, dev5_eq c, dev6_eq c, dev7_eq c, dev8_eq c]
  iapply (wp_pull P sM rfl c (k0_off1 c) (k0_off1_inb c)) $$ [HP Hs HzI]
  · isplitl [HP]; · iexact HP
    isplitl [Hs]; · iexact Hs
    iexact HzI
  iintro Hpull
  iapply (wp_signal_left P κ c (left c) rfl) $$ [HO HtL HrL Hslots]
  · isplitr; · iexact HI
    isplitl [HO]; · iexact HO
    isplitl [HtL]; · iexact HtL
    isplitl [HrL]; · iexact HrL
    iexact Hslots
  iintro HO
  iapply (wp_signal_right P κ c (right c) rfl) $$ [HO HtR HrR]
  · isplitr; · iexact HI
    isplitl [HO]; · iexact HO
    isplitl [HtR]; · iexact HtR
    iexact HrR
  iintro HO
  iapply (wp_wait_bar P κ c) $$ [HcB HO HatB]
  · isplitr; · iexact HI
    isplitr; · iexact Hlev
    isplitl [HcB]; · iexact HcB
    isplitl [HO]; · iexact HO
    iexact HatB
  iintro ⟨HzB, HO, Hbar⟩
  iapply (wp_pulled P sM c (k0_off1 c) (k0_off1_inb c) 6 (by decide) rfl) $$ [Hpull HO]
  · isplitr; · iexact Hlev
    isplitl [Hpull]; · iexact Hpull
    iexact HO
  iintro ⟨HP, Hs, HzI, HO⟩
  ihave Hb := (barPay_six c) $$ Hbar
  icases Hb with ⟨Hb0, Hb1, Hb2, Hb3, Hb4, Hb5⟩
  iapply (wp_sum_turn P κ 0 0 rfl 5 rfl c _ (dev3_eq c) (fun v b => k0_pay2 (k0_pay1 v b)) pay12) $$ [Hk0 Hb0 Hs HP Hc HzI HO]
  · isplitr; · iexact HI
    isplitr; · iexact Hlev
    isplitl [Hk0]; · iexact Hk0
    isplitl [Hb0]; · iexact Hb0
    isplitl [Hs]; · iexact Hs
    isplitl [HP]; · iexact HP
    isplitl [Hc]; · iexact Hc
    isplitl [HzI]; · iexact HzI
    iexact HO
  iintro ⟨Hz0, Hv0, Hs, HP, Hc, HzI, HO⟩
  iapply (wp_sum_turn P κ 1 1 rfl 4 rfl c _ (dev4_eq c) k0_pay3 pay3) $$ [Hk1 Hb1 Hs HP Hc HzI HO]
  · isplitr; · iexact HI
    isplitr; · iexact Hlev
    isplitl [Hk1]; · iexact Hk1
    isplitl [Hb1]; · iexact Hb1
    isplitl [Hs]; · iexact Hs
    isplitl [HP]; · iexact HP
    isplitl [Hc]; · iexact Hc
    isplitl [HzI]; · iexact HzI
    iexact HO
  iintro ⟨Hz1, Hv1, Hs, HP, Hc, HzI, HO⟩
  iapply (wp_sum_turn P κ 2 2 rfl 3 rfl c _ (dev5_eq c) k0_pay4 pay4) $$ [Hk2 Hb2 Hs HP Hc HzI HO]
  · isplitr; · iexact HI
    isplitr; · iexact Hlev
    isplitl [Hk2]; · iexact Hk2
    isplitl [Hb2]; · iexact Hb2
    isplitl [Hs]; · iexact Hs
    isplitl [HP]; · iexact HP
    isplitl [Hc]; · iexact Hc
    isplitl [HzI]; · iexact HzI
    iexact HO
  iintro ⟨Hz2, Hv2, Hs, HP, Hc, HzI, HO⟩
  iapply (wp_load_holds sM c (read_sum _)) $$ Hs
  iintro Hs
  iapply (wp_load_some gM c) $$ Hg
  iintro %u Hg
  iapply (wp_store_holds gM c (write_stage _) stage_sub) $$ Hg
  iintro Hg
  iapply (wp_push c (k0_off3 c) (k0_off3_inb c) f) $$ [Hout Hg HzO]
  · isplitl [Hout]; · iexact Hout
    isplitl [Hg]; · iexact Hg
    iexact HzO
  iintro Hpush
  iapply (wp_pushed c _ 3 (by decide) (rows_credit (k0_off3 c) (k0_off3_inb c))) $$ [Hpush HO]
  · isplitr; · iexact Hlev
    isplitl [Hpush]; · iexact Hpush
    iexact HO
  iintro ⟨Hout, Hg, HzO, HO⟩
  iapply (wp_spread_turn P κ 3 2 rfl c _ (dev6_eq c) sM (sum_lend 3 c (by decide)) (sum_back 3 c (by decide)) (k0_off4 c 0) (k0_off4_inb c 0) _ k0_pay6 pay6
    (wdst := sM) (vdst := slotM 3) rfl rfl) $$ [Hk3 Hb3 Hs Hout Hg HzO HO]
  · isplitr; · iexact HI
    isplitr; · iexact Hlev
    isplitl [Hk3]; · iexact Hk3
    isplitl [Hb3]; · iexact Hb3
    isplitl [Hs]; · iexact Hs
    isplitl [Hout]; · iexact Hout
    isplitl [Hg]; · iexact Hg
    isplitl [HzO]; · iexact HzO
    iexact HO
  iintro ⟨Hz3, Hs, Hv3, Hout, Hg, HzO, HO⟩
  iapply (wp_spread_turn P κ 4 1 rfl c _ (dev7_eq c) (slotM 3) (slot_lend 4 3 c (by decide) rfl) (slot_back 4 3 c (by decide) rfl) (k0_off4 c 1) (k0_off4_inb c 1) _ k0_pay7 pay7
    (wdst := slotM 3) (vdst := slotM 4) rfl rfl) $$ [Hk4 Hb4 Hv3 Hout Hg HzO HO]
  · isplitr; · iexact HI
    isplitr; · iexact Hlev
    isplitl [Hk4]; · iexact Hk4
    isplitl [Hb4]; · iexact Hb4
    isplitl [Hv3]; · iapply (Entails.of_eq (congrArg (holds (slotM 3) c) (sent_pass P 3 (by decide) c).symm)); iexact Hv3
    isplitl [Hout]; · iexact Hout
    isplitl [Hg]; · iexact Hg
    isplitl [HzO]; · iexact HzO
    iexact HO
  iintro ⟨Hz4, Hv3, Hv4, Hout, Hg, HzO, HO⟩
  iapply (wp_spread_turn P κ 5 0 rfl c _ (dev8_eq c) (slotM 4) (slot_lend 5 4 c (by decide) rfl) (slot_back 5 4 c (by decide) rfl) (k0_off4 c 2) (k0_off4_inb c 2) _ k0_pay8 pay8
    (wdst := slotM 4) (vdst := slotM 5) rfl rfl) $$ [Hk5 Hb5 Hv4 Hout Hg HzO HO]
  · isplitr; · iexact HI
    isplitr; · iexact Hlev
    isplitl [Hk5]; · iexact Hk5
    isplitl [Hb5]; · iexact Hb5
    isplitl [Hv4]; · iapply (Entails.of_eq (congrArg (holds (slotM 4) c) (sent_pass P 4 (by decide) c).symm)); iexact Hv4
    isplitl [Hout]; · iexact Hout
    isplitl [Hg]; · iexact Hg
    isplitl [HzO]; · iexact HzO
    iexact HO
  iintro ⟨Hz5, Hv4, Hv5, Hout, Hg, HzO, HO⟩
  unfold WP
  rw [wp_ret]
  imodintro
  iapply Hk
  unfold bodyPost
  rw [bigSep_six (fun k => iprop(semVal (sendCell k c) 0 ∗ semVal (recvCell k c) 0)), bigSep_six (fun k => holdsAny (slotM k) c)]
  isplitl [HzB]; · iexact HzB
  isplitl [Hz0 Hz1 Hz2 Hz3 Hz4 Hz5]
  · isplitl [Hz0]; · iexact Hz0
    isplitl [Hz1]; · iexact Hz1
    isplitl [Hz2]; · iexact Hz2
    isplitl [Hz3]; · iexact Hz3
    isplitl [Hz4]; · iexact Hz4
    iexact Hz5
  isplitl [HzI]; · iexact HzI
  isplitl [HzO]; · iexact HzO
  isplitl [HO]; · iapply (Entails.of_eq (congrArg (owing c) (rem_zero c))); iexact HO
  isplitl [HP]; · iexact HP
  isplitl [Hout]; · iapply (Entails.of_eq (congrArg (outPts c) (outAfter_eq P c f))); iexact Hout
  isplitl [Hs]; · iexact Hs
  isplitl [Hc]; · iexact Hc
  isplitl [Hg]; · iexact Hg
  isplitl [Hv0]; · iexact Hv0
  isplitl [Hv1]; · iexact Hv1
  isplitl [Hv2]; · iexact Hv2
  isplitl [Hv3]; · iexact Hv3
  isplitl [Hv4]; · iexact Hv4
  iapply (holds_any _ c _); iexact Hv5

end Cert.KernelIdeal.Ring

end
-- ==== Proof.Region.lean ====
/- THE KERNEL AS A REGION of @main: what the launch keeps for it, what its one point starts from and leaves, and the record the launch theorem takes. -/
module

public import proofs.«01_k».proof.Proof.Body
public import proofs.«01_k».proof.Proof.Gen.KernelIdeal.Regions
public import Idealize.ShloMosaic.Lib.Pipeline.RegionTalk
public import Idealize.ShloMosaic.Lib.Ring.FamCut
public import Idealize.ShloMosaic.Lib.ViewIndex
public import Idealize.ShloMosaic.Lib.Exec.Geometry
public import Idealize.ShloMosaic.Harness.Basic

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ UU ℕ

/-! ## The scoped buffers -/

/-- The elements of slot `k` in the landing buffer. -/
abbrev slotSet (c : Dev nD) (k : Fin 6) : Finset (Idx ((c : Thread nD τ).loc cc0_scratch3)) := (slotM k).view.set

theorem slots_apart (c : Dev nD) (k k' : Fin 6) (h : k ≠ k') : Disjoint (slotSet c k) (slotSet c k') := by
  have e : Disjoint (rM.access (slotR k)).set (rM.access (slotR k')).set := by
    refine View.disjoint_slice (LoadRect.disjoint_of_separated (slotR k).toLoadRect (slotR k').toLoadRect 0 ?_)
    have hne : k.val ≠ k'.val := fun e => h (Fin.ext e)
    rcases Nat.lt_or_gt_of_ne hne with hl | hl
    · left; right; show k.val + 1 * (1 - 1) < k'.val; omega
    · right; right; show k'.val + 1 * (1 - 1) < k.val; omega
  rw [← slot_set k, ← slot_set k'] at e
  exact e

/-- What is left of the landing buffer beside its six slots. -/
def slotRest (c : Dev nD) : sProp 𝕄 := iprop(∃ f, ((c : Thread nD τ).loc cc0_scratch3) ↦[Ring.restOf (slotSet c)]{fullShare} f)

theorem slots_split (c : Dev nD) : (iprop(∃ f : Buf (Elt F) ((c : Thread nD τ).loc cc0_scratch3), ((c : Thread nD τ).loc cc0_scratch3) ↦{fullShare} f) : sProp 𝕄)
    ⊢ iprop(bigSep Finset.univ (fun k : Fin 6 => holdsAny (slotM k) c) ∗ slotRest c) :=
  Idealize.ShloMosaic.Ring.fam_split_ex (slotSet c) (slots_apart c)
theorem slots_join (c : Dev nD) : iprop(bigSep Finset.univ (fun k : Fin 6 => holdsAny (slotM k) c) ∗ slotRest c)
    ⊢ (iprop(∃ f : Buf (Elt F) ((c : Thread nD τ).loc cc0_scratch3), ((c : Thread nD τ).loc cc0_scratch3) ↦{fullShare} f) : sProp 𝕄) :=
  Idealize.ShloMosaic.Ring.fam_join (slotSet c) (slots_apart c) (fun _ => Classical.arbitrary _)

/-- The scoped buffers as the body holds them. -/
def scratch (c : Dev nD) : sProp 𝕄 :=
  iprop((holdsAny sM c ∗ holdsAny cM c ∗ holdsAny gM c) ∗ bigSep Finset.univ (fun k : Fin 6 => holdsAny (slotM k) c) ∗ slotRest c)

theorem whole_any (b : Ref sig .tc) (c : Dev nD) :
    (iprop(∃ f : Buf (Elt F) ((c : Thread nD τ).loc b), ((c : Thread nD τ).loc b) ↦{fullShare} f) : sProp 𝕄) = holdsAny (Memref.whole b) c := by
  unfold holdsAny
  rw [show (Memref.whole b).view.set = Finset.univ from View.set_whole _]

theorem scratch_in (c : Dev nD) : (Pipeline.scopedRest (Ix := Unit) (Name := ℕ) (U := UU) (Lvl := ℕ) (Val := Elt F) cfg0.spec c : sProp 𝕄) ⊢ scratch c := by
  rw [scopedRest0_eq, whole_any, whole_any, whole_any]
  unfold scratch
  iintro ⟨Hs, Hc, Hg, Hr⟩
  isplitl [Hs Hc Hg]
  · isplitl [Hs]; · iexact Hs
    isplitl [Hc]; · iexact Hc
    iexact Hg
  iapply (slots_split c); iexact Hr
theorem scratch_out (c : Dev nD) : scratch c ⊢ (Pipeline.scopedRest (Ix := Unit) (Name := ℕ) (U := UU) (Lvl := ℕ) (Val := Elt F) cfg0.spec c : sProp 𝕄) := by
  rw [scopedRest0_eq, whole_any, whole_any, whole_any]
  unfold scratch
  iintro ⟨⟨Hs, Hc, Hg⟩, Hr⟩
  isplitl [Hs]; · iexact Hs
  isplitl [Hc]; · iexact Hc
  isplitl [Hg]; · iexact Hg
  iapply (slots_join c); iexact Hr

/-! ## The scoped counters -/

def sndEmb : Fin 6 ↪ Fin 14 := ⟨fun k => k.castLE (by decide), by decide⟩
def rcvEmb : Fin 6 ↪ Fin 14 := ⟨fun k => ⟨6 + k.val, by omega⟩, by decide⟩

/-- A fact of each of the fourteen scoped semaphores, by what they are for. -/
theorem fourteen (Φ : Fin 14 → sProp 𝕄) : bigSep Finset.univ Φ
    = iprop(bigSep Finset.univ (fun k : Fin 6 => iprop(Φ (sndEmb k) ∗ Φ (rcvEmb k))) ∗ Φ 12 ∗ Φ 13) := by
  rw [show (Finset.univ : Finset (Fin 14)) = (Finset.univ.map sndEmb ∪ Finset.univ.map rcvEmb) ∪ {12, 13} from by decide,
    bigSep_union (by decide), bigSep_union (by decide), bigSep_map, bigSep_map, bigSep_insert (by decide), bigSep_singleton, bigSep_sep']
  rfl

theorem counters_eq (c : Dev nD) : (Pipeline.ownSems0 osem c : sProp 𝕄)
    = iprop(bigSep Finset.univ (fun k : Fin 6 => iprop(semVal (sendCell k c) 0 ∗ semVal (recvCell k c) 0))
        ∗ semVal ((c : Thread nD τ), .dma inS) 0 ∗ semVal ((c : Thread nD τ), .dma outS) 0) :=
  fourteen fun j => semVal ((c : Thread nD τ), osem j) 0

/-! ## What the launch keeps for the kernel -/

variable (P : Dev nD → (main_v22 : Ref sig .tc).ty.Contents (Elt F))

/-- Of copy `k`: the right to open its two cells, the tokens of the duties `c` pays, and the credit of what it receives. -/
def seeds (k : Fin 6) (c : Dev nD) : sProp 𝕄 :=
  iprop((openTok ER (sendCell k c) ∗ openTok ER (recvCell k c)) ∗ (dutyTok ER (sendCell k c) 0 true ∗ dutyTok ER (recvCell k (right c)) 0 true)
    ∗ cred (tallyAt (recvCell k c) () N))

/-- Of the barrier: the position, the credit, and a token and the round of each neighbour's cell. -/
def barrier (c : Dev nD) : sProp 𝕄 :=
  iprop(atPos ER (barCell c) 0 ∅ 0 ∗ cred (tallyAt (barCell c) () 2)
    ∗ dutyTok ER (barCell (left c)) 0 true ∗ reached ER (barCell (left c)) 0
    ∗ dutyTok ER (barCell (right c)) 0 false ∗ reached ER (barCell (right c)) 0)

def Tk (c : Dev nD) : sProp 𝕄 := iprop(∃ κ, records P κ ∗ barrier c ∗ bigSep Finset.univ (fun k : Fin 6 => seeds k c))
def Xk (c : Dev nD) : sProp 𝕄 :=
  iprop(∃ κ, records P κ ∗ levAts L lv ∗ barrier c ∗ bigSep Finset.univ (fun k : Fin 6 => iprop(tokens k c ∗ reached ER (recvCell k c) 0))
    ∗ semVal ((c : Thread nD τ), .dma inS) 0 ∗ semVal ((c : Thread nD τ), .dma outS) 0)
def Yk (c : Dev nD) : sProp 𝕄 := semVal (barCell c) 0

/-- The two cells of copy `k` opened. -/
theorem open_pair (κ : GSem nD τ sig → ℕ) (k : Fin 6) (c : Dev nD) :
    iprop(records P κ ∗ (seeds k c ∗ (semVal (sendCell k c) 0 ∗ semVal (recvCell k c) 0)))
      ⊢ (|={Set.univ}=> iprop(tokens k c ∗ reached ER (recvCell k c) 0) : sProp 𝕄) := by
  unfold seeds tokens
  iintro ⟨#HI, ⟨⟨HoS, HoV⟩, ⟨HtS, HtV⟩, Hc⟩, HzS, HzV⟩
  ihave #HI1 := (record_at P κ (send_mem k c)) $$ HI
  ihave #HI2 := (record_at P κ (recv_mem k c)) $$ HI
  imod (Rounds.cell_open ER (ringRd P) (g := sendCell k c) (Set.mem_univ (κ (sendCell k c)))) $$ [HoS HzS] with ⟨HatS, #HrS⟩
  · isplitr; · iexact HI1
    isplitl [HoS] <;> iassumption
  imod (Rounds.cell_open ER (ringRd P) (g := recvCell k c) (Set.mem_univ (κ (recvCell k c)))) $$ [HoV HzV] with ⟨HatV, #HrV⟩
  · isplitr; · iexact HI2
    isplitl [HoV] <;> iassumption
  imodintro
  isplitl [HtS HtV HatS HatV Hc]
  · isplitl [HtS]; · iexact HtS
    isplitr; · iexact HrS
    isplitl [HtV]; · iexact HtV
    isplitl [HatS]; · iexact HatS
    isplitl [HatV]; · iexact HatV
    iexact Hc
  iexact HrV

theorem open_all (κ : GSem nD τ sig → ℕ) (c : Dev nD) :
    iprop(records P κ ∗ bigSep Finset.univ (fun k : Fin 6 => iprop(seeds k c ∗ (semVal (sendCell k c) 0 ∗ semVal (recvCell k c) 0))))
      ⊢ (|={Set.univ}=> bigSep Finset.univ (fun k : Fin 6 => iprop(tokens k c ∗ reached ER (recvCell k c) 0)) : sProp 𝕄) :=
  (bigSep_with_persistent fun k _ => open_pair P κ k c).trans (BI.bigSep_fupd Finset.univ _)

theorem hopen (c : Dev nD) : iprop(Tk P c ∗ Pipeline.ownSems0 osem c ∗ levAts L lv) ⊢ (|={Set.univ}=> Xk P c : sProp 𝕄) := by
  rw [counters_eq]
  unfold Tk Xk
  iintro ⟨⟨%κ, #HI, Hb, Hs⟩, ⟨Hz, HzI, HzO⟩, #Hlev⟩
  imod (open_all P κ c) $$ [Hs Hz] with Ht
  · isplitr; · iexact HI
    iapply (Entails.of_eq (bigSep_sep' _ _ _).symm)
    isplitl [Hs] <;> iassumption
  imodintro
  iexists κ
  isplitr; · iexact HI
  isplitr; · iexact Hlev
  isplitl [Hb]; · iexact Hb
  isplitl [Ht]; · iexact Ht
  isplitl [HzI] <;> iassumption

/-! ## The region's data -/

variable (f₀ : Dev nD → (main_v23 : Ref sig .tc).ty.Contents (Elt F))

/-- Before the one point: what was opened, the two arrays, the scoped buffers, the generator register; after it: the counters back at zero. -/
def before (c : Dev nD) : sProp 𝕄 := iprop(Xk P c ∗ (partialPts P c ∗ outPts c (f₀ c)) ∗ scratch c ∗ ∃ r, prngReg c r)
def after (c : Dev nD) : sProp 𝕄 :=
  iprop(Yk c ∗ Pipeline.ownSems0 osem c ∗ (partialPts P c ∗ outPts c (outAfter P c (f₀ c))) ∗ scratch c ∗ ∃ r, prngReg c r)

def dat (c : Dev nD) : Dat τ (Elt F) Unit ℕ UU ℕ cfg0 c where
  A w := w.elim0
  after w := w.elim0
  Φ t := if t.val = 0 then before P f₀ c else after P f₀ c
  q w := w.elim0
  owed t := if t.val = 0 then O₀ c else 0

theorem bigSep_none {M : Type} [URA M] (Φ : Fin 0 → sProp M) : bigSep Finset.univ Φ = (BI.emp : sProp M) :=
  bigSep_univ_eq_bigSepL [] (by decide) (by decide) Φ

theorem owed_first (c : Dev nD) : (dat P f₀ c).owed t0_0.castSucc = O₀ c := by
  show (if (t0_0.castSucc : Fin (cfg0.N + 1)).val = 0 then O₀ c else 0) = O₀ c; exact if_pos rfl
theorem owed_zero (c : Dev nD) : (dat P f₀ c).owed 0 = O₀ c := by
  show (if (0 : Fin (cfg0.N + 1)).val = 0 then O₀ c else 0) = O₀ c; exact if_pos rfl
theorem owed_last (c : Dev nD) : (dat P f₀ c).owed (Fin.last _) = 0 := by
  show (if (Fin.last cfg0.N).val = 0 then O₀ c else 0) = 0
  rw [Fin.val_last, if_neg (by rw [show cfg0.N = 1 from N_0]; decide)]
theorem at_last (c : Dev nD) : (dat P f₀ c).Φ (Fin.last _) = after P f₀ c := by
  show (if (Fin.last cfg0.N).val = 0 then before P f₀ c else after P f₀ c) = _
  rw [Fin.val_last, if_neg (by rw [show cfg0.N = 1 from N_0]; decide)]

theorem owesAt_intro (c : Dev nD) (t : Fin (cfg0.N + 1)) (O : CellTallies nD τ sig Unit) (h : (dat P f₀ c).owed t = O) :
    (owing c O : sProp 𝕄) ⊢ ((dat P f₀ c).owesAt () t : sProp 𝕄) := by
  unfold owing Dat.owesAt Pipeline.owesWithin Dat.bound; rw [h]
  iintro ⟨%W, HO⟩; iexists W; isplitr; · ipureintro; exact fun _ _ => Or.inl trivial
  iexact HO
theorem owesAt_elim (c : Dev nD) (t : Fin (cfg0.N + 1)) (O : CellTallies nD τ sig Unit) (h : (dat P f₀ c).owed t = O) :
    ((dat P f₀ c).owesAt () t : sProp 𝕄) ⊢ (owing c O : sProp 𝕄) := by
  unfold owing Dat.owesAt Pipeline.owesWithin; rw [h]
  iintro ⟨%W, -, HO⟩; iexists W; iexact HO

theorem body_ok (c : Dev nD) : BodyObligation (dat P f₀ c) (defs₀ (F := F)) 𝒱₀ () Set.univ := fun t => by
  obtain rfl := fin_N0 t
  rw [bigSep_none, bigSep_none]
  rw [show (dat P f₀ c).Φ t0_0.castSucc = before P f₀ c from rfl, show (dat P f₀ c).Φ t0_0.succ = after P f₀ c from rfl]
  unfold before after Xk scratch barrier
  iintro ⟨⟨⟨%κ, #HI, #Hlev, ⟨HatB, HcB, HtL, HrL, HtR, HrR⟩, Ht, HzI, HzO⟩, ⟨HP, Hout⟩, ⟨⟨Hs, Hc, Hg⟩, Hsl, Hrest⟩, Hreg⟩, HO, -⟩
  ihave HO' := (owesAt_elim P f₀ c _ (O₀ c) (owed_first P f₀ c)) $$ HO
  ihave Ht' := (Entails.of_eq (bigSep_sep' Finset.univ (fun k : Fin 6 => tokens k c) fun k => reached ER (recvCell k c) 0)) $$ Ht
  icases Ht' with ⟨Ht, Hr⟩
  iapply (sound_body P κ c (f₀ c) _)
  isplitr; · iexact HI
  isplitr; · iexact Hlev
  isplitr [Hrest Hreg]
  · unfold bodyPre
    isplitl [HatB]; · iexact HatB
    isplitl [HcB]; · iexact HcB
    isplitl [HtL]; · iexact HtL
    isplitl [HrL]; · iexact HrL
    isplitl [HtR]; · iexact HtR
    isplitl [HrR]; · iexact HrR
    isplitl [Ht]; · iexact Ht
    isplitl [Hsl Hr]
    · iapply (Entails.of_eq (bigSep_sep' _ _ _).symm)
      isplitl [Hsl] <;> iassumption
    isplitl [HzI]; · iexact HzI
    isplitl [HzO]; · iexact HzO
    isplitl [HO']; · iexact HO'
    isplitl [HP]; · iexact HP
    isplitl [Hout]; · iexact Hout
    isplitl [Hs]; · iexact Hs
    isplitl [Hc]; · iexact Hc
    iexact Hg
  unfold bodyPost
  iintro ⟨HzB, Hz, HzI, HzO, HO, HP, Hout, Hs, Hc, Hg, Hsl⟩
  isplitr [HO]
  · isplitl [HzB]; · unfold Yk; iexact HzB
    isplitl [Hz HzI HzO]
    · iapply (Entails.of_eq (counters_eq c).symm)
      isplitl [Hz]; · iexact Hz
      isplitl [HzI] <;> iassumption
    isplitl [HP Hout]; · isplitl [HP] <;> iassumption
    isplitr [Hreg]
    · isplitl [Hs Hc Hg]
      · isplitl [Hs]; · iexact Hs
        isplitl [Hc] <;> iassumption
      isplitl [Hsl] <;> iassumption
    iexact Hreg
  isplitl [HO]; · iapply (owesAt_intro P f₀ c t0_0.succ 0 (owed_last P f₀ c)); iexact HO
  iempintro

/-! ## The record -/

variable (m : (ℓ : Loc nD τ sig) → Buf (Elt F) ℓ)

/-- The partial array of each device, and the output's contents before the kernel. -/
abbrev part (c : Dev nD) : (main_v22 : Ref sig .tc).ty.Contents (Elt F) := V4 m c main_v22
abbrev out₀ (c : Dev nD) : (main_v23 : Ref sig .tc).ty.Contents (Elt F) := V4 m c main_v23

/-- The unscoped buffers after the kernel. -/
def VN (c : Dev nD) : Valuation τ sig (Elt F) := Function.update (V4 m c) (Proc.devRef .tc main_v23) (outAfter (part m) c (out₀ m c))

/-- The two arrays the kernel addresses. -/
abbrev talk : Finset (DevRef τ sig) := {Proc.devRef .tc main_v22, Proc.devRef .tc main_v23}

theorem talk_sub : talk ⊆ Pipeline.ucRefs τ sig := by
  intro b hb
  rcases Finset.mem_insert.mp hb with rfl | hb
  · exact Finset.mem_filter.mpr ⟨StableHlo.devRef_mem_tcRefs main_v22, by decide⟩
  · rw [Finset.mem_singleton.mp hb]; exact Finset.mem_filter.mpr ⟨StableHlo.devRef_mem_tcRefs main_v23, by decide⟩

theorem talk_held (c : Dev nD) (W : Valuation τ sig (Elt F)) (P : Dev nD → (main_v22 : Ref sig .tc).ty.Contents (Elt F))
    (f : (main_v23 : Ref sig .tc).ty.Contents (Elt F)) (hP : W (Proc.devRef .tc main_v22) = P c) (hf : W (Proc.devRef .tc main_v23) = f) :
    (StableHlo.held (c.tc : Thread nD τ) talk W : sProp 𝕄) = iprop(partialPts P c ∗ outPts c f) := by
  unfold StableHlo.held partialPts outPts
  rw [bigSep_insert (by decide), bigSep_singleton, hP, hf]
  rfl

def pdats : (p : Fin 1) → (c : Dev nD) → Dat τ (Elt F) Unit ℕ UU ℕ (cfgs p) c
  | 0 => dat (part m) (out₀ m)

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos w := w.elim0
  arr_whole w := w.elim0
  stage_whole w := w.elim0

theorem cut (c : Dev nD) (t : Fin (cfg0.N + 1)) (g : GSem nD τ sig) (i : Unit) (h : 0 < (dat P f₀ c).owed t g i) :
    i ∈ L g ∧ (0 : ℕ) < lv g i := by
  have e : (dat P f₀ c).owed t = if t.val = 0 then O₀ c else 0 := rfl
  rw [e] at h
  split at h
  · rcases O₀_pos h with ⟨k, rfl⟩ | rfl | rfl
    · exact ⟨by rw [L_tc]; exact Finset.mem_singleton_self _, by rw [lv_rcv]; omega⟩
    · exact ⟨by rw [L_tc]; exact Finset.mem_singleton_self _, by rw [lv_bar]; omega⟩
    · exact ⟨by rw [L_tc]; exact Finset.mem_singleton_self _, by rw [lv_bar]; omega⟩
  · exact absurd h (Nat.lt_irrefl 0)

theorem own_facts0 : Pipeline.OwnSemFacts cfg0.spec osem := by decide
theorem own_facts : Pipeline.OwnSemFacts (pcfgs (F := F) 0).spec osem := own_facts0

theorem hin (c : Dev nD) : iprop(Pipeline.scopedRest cfg0.spec c ∗ (∃ r, prngReg c r) ∗ StableHlo.held (c.tc : Thread nD τ) talk (V4 m c) ∗ Xk (part m) c)
    ⊢ ((dat (part m) (out₀ m) c).Φ 0 : sProp 𝕄) := by
  rw [show (dat (part m) (out₀ m) c).Φ 0 = before (part m) (out₀ m) c from rfl, talk_held c (V4 m c) (part m) (out₀ m c) rfl rfl]
  unfold before
  iintro ⟨Hs, Hp, Hh, HX⟩
  isplitl [HX]; · iexact HX
  isplitl [Hh]; · iexact Hh
  isplitl [Hs]; · iapply (scratch_in c); iexact Hs
  iexact Hp

theorem VN_part (c : Dev nD) : VN m c (Proc.devRef .tc main_v22) = part m c := Function.update_of_ne (by decide) _ _
theorem VN_out (c : Dev nD) : VN m c (Proc.devRef .tc main_v23) = outAfter (part m) c (out₀ m c) := Function.update_self _ _ _

theorem hout (c : Dev nD) : ((dat (part m) (out₀ m) c).Φ (Fin.last cfg0.N) : sProp 𝕄)
    ⊢ iprop(Pipeline.scopedRest cfg0.spec c ∗ (∃ r, prngReg c r) ∗ StableHlo.held (c.tc : Thread nD τ) talk (VN m c) ∗ Pipeline.ownSems0 osem c ∗ Yk c) := by
  rw [at_last, talk_held c (VN m c) (part m) (outAfter (part m) c (out₀ m c)) (VN_part m c) (VN_out m c)]
  unfold after
  iintro ⟨HY, Hz, Hh, Hs, Hp⟩
  isplitl [Hs]; · iapply (scratch_out c); iexact Hs
  isplitl [Hp]; · iexact Hp
  isplitl [Hh]; · iexact Hh
  isplitl [Hz]; · iexact Hz
  iexact HY

theorem keep (c : Dev nD) : (Yk c : sProp 𝕄) ⊢ (|={Set.univ}=> Yk c : sProp 𝕄) := by
  iintro H; imodintro; iexact H

theorem VN_rest (c : Dev nD) (b : DevRef τ sig) (hb : b ∈ Pipeline.ucRefs τ sig \ talk) : VN m c b = V4 m c b :=
  Function.update_of_ne (fun e => (Finset.mem_sdiff.mp hb).2 (by rw [e]; exact Finset.mem_insert_of_mem (Finset.mem_singleton_self _))) _ _

set_option backward.isDefEq.respectTransparency.types false in
/-- The kernel, entered from the unscoped buffers as the host left them and left with the output's set. -/
def reg : Pipeline.RegionSeg (pcfgs (F := F)) adm (pdats m) () defs₀ 𝒱₀ L lv 0 :=
  Pipeline.RegionSeg.ofTalk (pcfgs (F := F)) adm (pdats m) () defs₀ 𝒱₀ L lv 0 osem own_facts
    talk (Pipeline.ucRefs τ sig) talk_sub kit0 rfl (fun c => (body_ok (part m) (out₀ m) c).loose)
    (fun _ => 0) O₀ (fun c => (owed_zero (part m) (out₀ m) c).trans (zero_add _).symm) (owed_last (part m) (out₀ m)) (fun _ => rfl) (fun _ w => w.elim0)
    (V4 m) (VN m) (VN_rest m)
    (Tk (part m)) Yk (Xk (part m)) Yk (hopen (part m)) (hin m) (hout m) keep
    (fun _ => 0) ⟨fun _ w => w.elim0, fun _ w => w.elim0, fun c t g i h => cut (part m) (out₀ m) c t g i h⟩
    (fun _ => iprop(emp)) (fun _ w => w.elim0) (fun _ w => w.elim0)

theorem held_arr (c : Dev nD) (W : Valuation τ sig (Elt F)) :
    (StableHlo.held (c.tc : Thread nD τ) (Pipeline.arrRefs (τ := τ) (pcfgs (F := F) 0).spec) W : sProp 𝕄) = BI.emp := by
  have : Pipeline.arrRefs (τ := τ) (pcfgs (F := F) 0).spec = ∅ := by
    unfold Pipeline.arrRefs
    rw [Finset.map_eq_empty, Finset.image_eq_empty, Finset.univ_eq_empty]
  rw [this]
  unfold StableHlo.held
  exact BI.bigSep_empty

/-- What rides beside the buffers up to the kernel. -/
def ride (c : Dev nD) : sProp 𝕄 := iprop(Tk (part m) c ∗ (∃ r, prngReg c r) ∗ owing c (O₀ c))

theorem reg_pre (c : Dev nD) : iprop(StableHlo.held (c : Thread nD τ) (Pipeline.ucRefs τ sig) (V4 m c) ∗ ride m c) ⊢ ((reg m).pre c : sProp 𝕄) := by
  show _ ⊢ iprop(StableHlo.held (c.tc : Thread nD τ) (Pipeline.arrRefs (τ := τ) (pcfgs (F := F) 0).spec) (V4 m c) ∗ (∃ r, prngReg c r)
    ∗ (StableHlo.held (c.tc : Thread nD τ) (Pipeline.ucRefs τ sig) (V4 m c) ∗ emp) ∗ Tk (part m) c ∗ ∃ Wd, owes (c : Thread nD τ) (0 + O₀ c) Wd)
  rw [held_arr, zero_add]
  unfold ride owing
  iintro ⟨Hh, HT, Hp, HO⟩
  isplitr; · iempintro
  isplitl [Hp]; · iexact Hp
  isplitl [Hh]
  · isplitl [Hh]; · iexact Hh
    iempintro
  isplitl [HT]; · iexact HT
  iexact HO

theorem reg_post (c : Dev nD) : ((reg m).post c : sProp 𝕄)
    ⊢ iprop((StableHlo.held (c : Thread nD τ) (Pipeline.ucRefs τ sig) (VN m c) ∗ semVal (barCell c) 0)
      ∗ ∃ W, owes (c : Thread nD τ) (0 : CellTallies nD τ sig Unit) W) := by
  show iprop(StableHlo.held (c.tc : Thread nD τ) (Pipeline.arrRefs (τ := τ) (pcfgs (F := F) 0).spec) (VN m c) ∗ (∃ r, prngReg c r)
    ∗ (StableHlo.held (c.tc : Thread nD τ) (Pipeline.ucRefs τ sig) (VN m c) ∗ emp) ∗ Yk c ∗ ∃ Wd, owes (c : Thread nD τ) (0 : CellTallies nD τ sig Unit) Wd) ⊢ _
  rw [held_arr]
  unfold Yk
  iintro ⟨-, -, ⟨Hh, -⟩, Hb, HO⟩
  isplitl [Hh Hb]
  · isplitl [Hh] <;> iassumption
  iexact HO

end Cert.KernelIdeal.Ring

end
-- ==== Proof.Launch.lean ====
/- THE RUN of `KernelIdeal`'s @main on every device, over any float values: the launch's counters, credits and tokens are dealt out to the devices,
   and the host stretches and the kernel run in order. -/
module

public import proofs.«01_k».proof.Proof.Region
public import Idealize.ShloMosaic.Lib.Quiescent

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg)

variable {F : FTy → Type} [FloatOps F]

local notation "𝕄" => MT nD τ sig Unit (Elt F) ℕ UU ℕ

/-! ## The launch element -/

/-- A device's fourteen duties' cells and names: its twelve copy cells' one duty, then its barrier's two. -/
abbrev duty (j : Fin 14) : SemLoc sig × Bool := if j.val < 12 then (osem j, true) else (.reg barS, decide (j.val = 12))
theorem duty_inj : Function.Injective duty := by decide

def dutyEmb : Dev nD × Fin 14 ↪ GSem nD τ sig × ℕ × Bool :=
  ⟨fun x => (((x.1 : Thread nD τ), (duty x.2).1), 0, (duty x.2).2), fun _ _ h =>
    Prod.ext (congrArg (fun t : GSem nD τ sig × ℕ × Bool => t.1.1.1) h)
      (duty_inj (Prod.ext (congrArg (fun t : GSem nD τ sig × ℕ × Bool => t.1.2) h) (congrArg (fun t : GSem nD τ sig × ℕ × Bool => t.2.2) h)))⟩

abbrev allDuties : Finset (GSem nD τ sig × ℕ × Bool) := Finset.univ.map dutyEmb

theorem cells_apart : Disjoint (barCells : Finset (GSem nD τ sig)) scCells := by
  rw [Finset.disjoint_left]
  intro g hb hs
  obtain ⟨c, -, rfl⟩ := Finset.mem_map.mp hb
  obtain ⟨x, -, e⟩ := Finset.mem_map.mp hs
  exact psem_ne_bar x.2 (congrArg Prod.snd e)

def u₀ : UU :=
  (initOf (Pipeline.cells (Pipeline.pin (pcfgs (F := F)) adm) cellOf_inj) (Pipeline.launchToks (Pipeline.pin (pcfgs (F := F)) adm) cellOf_inj),
    (launchOf barCells scCells allDuties, 1))

/-- The rounds' launch element is kept whole by device 0 until the devices' shares are made. -/
def G (c : Dev nD) : sProp 𝕄 := if c = 0 then BI.own (ER (launchOf barCells scCells allDuties)) else iprop(emp)

theorem G_all : bigSep Finset.univ (G (F := F)) = BI.own (ER (launchOf barCells scCells allDuties)) := by
  have e : bigSep (Finset.univ.erase (0 : Dev nD)) (G (F := F)) = (BI.emp : sProp 𝕄) :=
    (bigSep_congr fun c hc => if_neg (Finset.ne_of_mem_erase hc)).trans (BI.bigSep_emp_const _)
  rw [bigSep_univ_at _ (0 : Dev nD), e]
  exact (BI.equiv_iff.mp sep_emp).trans (if_pos rfl)

/-! ## The tokens, handed to the devices that pay -/

/-- The tokens of the duties of `c`'s own cells. -/
def ownDuties (c : Dev nD) : sProp 𝕄 :=
  iprop(bigSep Finset.univ (fun k : Fin 6 => iprop(dutyTok ER (sendCell k c) 0 true ∗ dutyTok ER (recvCell k c) 0 true))
    ∗ dutyTok ER (barCell c) 0 true ∗ dutyTok ER (barCell c) 0 false)
/-- The tokens of the duties `c` pays. -/
def paidDuties (c : Dev nD) : sProp 𝕄 :=
  iprop(bigSep Finset.univ (fun k : Fin 6 => iprop(dutyTok ER (sendCell k c) 0 true ∗ dutyTok ER (recvCell k (right c)) 0 true))
    ∗ dutyTok ER (barCell (left c)) 0 true ∗ dutyTok ER (barCell (right c)) 0 false)

theorem duties_own : bigSep allDuties (fun x => (dutyTok ER x.1 x.2.1 x.2.2 : sProp 𝕄)) = bigSep Finset.univ fun c : Dev nD => ownDuties c := by
  rw [bigSep_map, bigSep_univ_prod]
  exact bigSep_congr fun c _ => fourteen fun j => dutyTok ER ((c : Thread nD τ), (duty j).1) 0 (duty j).2

theorem around (Φ : Dev nD → sProp 𝕄) : bigSep Finset.univ Φ = bigSep Finset.univ fun c : Dev nD => Φ (right c) := bigSep_univ_equiv ring Φ
theorem around' (Φ : Dev nD → sProp 𝕄) : bigSep Finset.univ Φ = bigSep Finset.univ fun c : Dev nD => Φ (left c) := bigSep_univ_equiv ring.symm Φ

theorem duties_paid : (bigSep Finset.univ fun c : Dev nD => (ownDuties c : sProp 𝕄)) = bigSep Finset.univ fun c : Dev nD => paidDuties c := by
  unfold ownDuties paidDuties
  simp only [bigSep_sep']
  rw [around (F := F) fun c => bigSep Finset.univ fun k : Fin 6 => dutyTok ER (recvCell k c) 0 true, around' (F := F) fun c => dutyTok ER (barCell c) 0 true,
    around (F := F) fun c => dutyTok ER (barCell c) 0 false]

/-! ## The launch credit -/

theorem right_eq_iff (d c : Dev nD) : right d = c ↔ d = left c :=
  ⟨fun h => by rw [← h, left_right], fun h => by rw [h, right_left]⟩
theorem left_eq_iff (d c : Dev nD) : left d = c ↔ d = right c :=
  ⟨fun h => by rw [← h, right_left], fun h => by rw [h, left_right]⟩

theorem recvCell_eq_iff (k k' : Fin 6) (c c' : Dev nD) : recvCell k c = recvCell k' c' ↔ k = k' ∧ c = c' := by
  constructor
  · intro h
    have e1 : c = c' := congrArg (fun g : GSem nD τ sig => g.1.1) h
    have e2 : recvS k = recvS k' := SemLoc.dma.inj (congrArg Prod.snd h)
    have e3 : 6 + k.val = 6 + k'.val := congrArg Fin.val e2
    exact ⟨Fin.ext (by omega), e1⟩
  · rintro ⟨rfl, rfl⟩; rfl
theorem barCell_eq_iff (c c' : Dev nD) : barCell c = barCell c' ↔ c = c' :=
  ⟨fun h => congrArg (fun g : GSem nD τ sig => g.1.1) h, fun h => h ▸ rfl⟩
theorem recv_ne_bar (k : Fin 6) (c c' : Dev nD) : recvCell k c ≠ barCell c' := fun h => by
  have := congrArg Prod.snd h
  exact absurd this (by simp)

theorem rem_recv (k : Fin 6) (d c : Dev nD) (j : ℕ) (hj : j ≤ 6) : rem d j (recvCell k c) () = if d = left c ∧ 6 ≤ k.val + j then N else 0 := by
  induction j with
  | zero => rw [if_neg (fun h => by have := k.isLt; omega)]; rfl
  | succ j ih =>
    rw [rem, Pi.add_apply, Finsupp.add_apply, ih (by omega), tallyAt_apply]
    simp only [recvCell_eq_iff, and_true, eq_comm (a := c), right_eq_iff, Fin.ext_iff (a := k)]
    by_cases hd : d = left c
    · simp only [hd, true_and, and_true]
      by_cases h1 : 6 ≤ k.val + j
      · rw [if_pos h1, if_neg (by omega), if_pos (by omega), add_zero]
      · rw [if_neg h1, zero_add]; exact if_congr (by omega) rfl rfl
    · simp only [hd, false_and, and_false, if_false, add_zero]

theorem rem_bar (d c : Dev nD) (j : ℕ) : rem d j (barCell c) () = 0 := by
  by_contra h
  obtain ⟨k, -, e⟩ := rem_pos (Nat.pos_of_ne_zero h)
  exact recv_ne_bar _ _ _ e.symm

theorem owed_bar (d c : Dev nD) : O₀ d (barCell c) () = (if d = left c then 1 else 0) + if d = right c then 1 else 0 := by
  rw [O₀, Pi.add_apply, Finsupp.add_apply, Pi.add_apply, Finsupp.add_apply, rem_bar, zero_add, tallyAt_apply, tallyAt_apply]
  simp only [barCell_eq_iff, and_true, eq_comm (a := c), right_eq_iff, left_eq_iff]
theorem owed_recv (k : Fin 6) (d c : Dev nD) : O₀ d (recvCell k c) () = if d = left c then N else 0 := by
  rw [O₀, Pi.add_apply, Finsupp.add_apply, Pi.add_apply, Finsupp.add_apply, tallyAt_apply, tallyAt_apply, if_neg (fun h => recv_ne_bar _ _ _ h.1),
    if_neg (fun h => recv_ne_bar _ _ _ h.1), add_zero, add_zero, rem_recv k d c 6 (le_refl _)]
  exact if_congr (and_iff_left (by omega)) rfl rfl

theorem credit_of (g : GSem nD τ sig) (n : ℕ) (h : ∑ d : Dev nD, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]
theorem credit_bar (c : Dev nD) : tallyOn (barCell c) (launchCredit (Pipeline.owing O₀) 0 (barCell c)) = (tallyAt (barCell c) () 2 : CellTallies nD τ sig Unit) :=
  credit_of _ _ (by
    rw [Finset.sum_congr rfl fun d _ => owed_bar d c, Finset.sum_add_distrib, Finset.sum_ite_eq', Finset.sum_ite_eq', if_pos (Finset.mem_univ _), if_pos (Finset.mem_univ _)])
theorem credit_recv (k : Fin 6) (c : Dev nD) :
    tallyOn (recvCell k c) (launchCredit (Pipeline.owing O₀) 0 (recvCell k c)) = (tallyAt (recvCell k c) () N : CellTallies nD τ sig Unit) :=
  credit_of _ _ (by
    rw [Finset.sum_congr rfl fun d _ => owed_recv k d c, Finset.sum_ite_eq', if_pos (Finset.mem_univ _)])

def recvEmb : Fin 6 ↪ SemLoc sig := ⟨fun k => .dma (recvS k), by decide⟩

theorem credits (c : Dev nD) : (Pipeline.launchCred O₀ c : sProp 𝕄)
    ⊢ iprop(cred (tallyAt (barCell c) () 2) ∗ bigSep Finset.univ fun k : Fin 6 => cred (tallyAt (recvCell k c) () N)) := by
  unfold Pipeline.launchCred
  refine (bigSep_subset (Finset.subset_univ (insert (SemLoc.reg barS) (Finset.univ.map recvEmb)))).trans ?_
  rw [bigSep_insert (by decide), bigSep_map]
  have e : bigSep Finset.univ (fun k : Fin 6 => (cred (tallyOn (recvCell k c) (launchCredit (Pipeline.owing O₀) 0 (recvCell k c))) : sProp 𝕄))
      = bigSep Finset.univ fun k : Fin 6 => cred (tallyAt (recvCell k c) () N) :=
    bigSep_congr fun k _ => congrArg (fun x => (cred x : sProp 𝕄)) (credit_recv k c)
  rw [credit_bar, ← e]
  exact BI.Entails.refl _

/-! ## The devices' shares -/

theorem sixPairs (Φ : Fin 12 → sProp 𝕄) : bigSep Finset.univ Φ
    = bigSep Finset.univ (fun k : Fin 6 => iprop(Φ (k.castLE (by decide)) ∗ Φ ⟨6 + k.val, by omega⟩)) := by
  rw [show (Finset.univ : Finset (Fin 12)) = Finset.univ.map ⟨fun k : Fin 6 => k.castLE (by decide), by decide⟩
      ∪ Finset.univ.map ⟨fun k : Fin 6 => (⟨6 + k.val, by omega⟩ : Fin 12), by decide⟩ from by decide,
    bigSep_union (by decide), bigSep_map, bigSep_map, bigSep_sep']
  rfl

theorem opens_own : bigSep scCells (fun g => (openTok ER g : sProp 𝕄))
    = bigSep Finset.univ fun c : Dev nD => bigSep Finset.univ fun k : Fin 6 => iprop(openTok ER (sendCell k c) ∗ openTok ER (recvCell k c)) := by
  rw [bigSep_map, bigSep_univ_prod]
  exact bigSep_congr fun c _ => sixPairs fun j => openTok ER ((c : Thread nD τ), psem j)

variable (m : (ℓ : Loc nD τ sig) → Buf (Elt F) ℓ) (ρ : Dev nD → PrngReg)

/-- What every device may consult. -/
def common (κ : GSem nD τ sig → ℕ) : sProp 𝕄 := iprop(records (part m) κ ∗ bigSep barCells fun g => reached ER g 0)
instance common_persistent (κ : GSem nD τ sig → ℕ) : BI.Persistent (common m κ) := by unfold common; infer_instance

/-- What is one device's own, of the ghost state and of the launch. -/
def share (c : Dev nD) : sProp 𝕄 :=
  iprop(atPos ER (barCell c) 0 ∅ 0 ∗ (bigSep Finset.univ fun k : Fin 6 => iprop(openTok ER (sendCell k c) ∗ openTok ER (recvCell k c))) ∗ paidDuties c)
def launched (c : Dev nD) : sProp 𝕄 :=
  iprop(StableHlo.held (c : Thread nD τ) (Pipeline.ucRefs τ sig) (V0 m c)
    ∗ (cred (tallyAt (barCell c) () 2) ∗ bigSep Finset.univ fun k : Fin 6 => cred (tallyAt (recvCell k c) () N))
    ∗ owes (c : Thread nD τ) (O₀ c) ∅ ∗ ∃ r, prngReg c r)

abbrev T₀ (c : Dev nD) : sProp 𝕄 := iprop(StableHlo.held (c : Thread nD τ) (Pipeline.ucRefs τ sig) (V0 m c) ∗ ride m c)
abbrev Tₙ (c : Dev nD) : sProp 𝕄 := iprop(StableHlo.held (c : Thread nD τ) (Pipeline.ucRefs τ sig) (VN m c) ∗ semVal (barCell c) 0)

theorem reached_at (c : Dev nD) : (bigSep barCells fun g => (reached ER g 0 : sProp 𝕄)) ⊢ reached ER (barCell c) 0 :=
  bigSep_elim (Finset.mem_map_of_mem barEmb (Finset.mem_univ c))

theorem T₀_intro (κ : GSem nD τ sig → ℕ) (c : Dev nD) : iprop(common m κ ∗ (share c ∗ launched m c)) ⊢ T₀ m c := by
  unfold T₀ common share launched paidDuties ride Tk barrier owing
  iintro ⟨⟨#HI, #HR⟩, ⟨Hat, Hop, Hk, Ht, Hf⟩, Hh, ⟨Hb, Hc⟩, HO, Hp⟩
  isplitl [Hh]; · iexact Hh
  isplitr [HO Hp]
  · iexists κ
    isplitr; · iexact HI
    isplitr [Hop Hk Hc]
    · isplitl [Hat]; · iexact Hat
      isplitl [Hb]; · iexact Hb
      isplitl [Ht]; · iexact Ht
      isplitr; · iapply (reached_at (F := F) (left c)); iexact HR
      isplitl [Hf]; · iexact Hf
      iapply (reached_at (F := F) (right c)); iexact HR
    · unfold seeds
      iapply (Entails.of_eq (bigSep_sep' _ _ _).symm)
      isplitl [Hop]; · iexact Hop
      iapply (Entails.of_eq (bigSep_sep' _ _ _).symm)
      isplitl [Hk] <;> iassumption
  · isplitl [Hp]; · iexact Hp
    iexists ∅; iexact HO

theorem unscoped_bar (c : Dev nD) : (unscopedSems0 c : sProp 𝕄) = semVal (barCell c) 0 := by
  unfold unscopedSems0
  rw [show (Finset.univ.filter fun sm : SemLoc sig => ¬ sm.isScoped .tc) = {SemLoc.reg barS} from by decide, bigSep_singleton]

theorem launch_one (c : Dev nD) : iprop(unscopedBufs c (fun b => m ((c.tc : Thread nD τ).loc b)) ∗ unscopedSems0 c
      ∗ owes (c.tc : Thread nD τ) (O₀ c) ∅ ∗ Pipeline.launchCred O₀ c ∗ prngReg c (ρ c) ∗ G c)
    ⊢ (iprop(launched m c ∗ (semVal (barCell c) 0 ∗ G c)) : sProp 𝕄) := by
  rw [show unscopedBufs c (fun b => m ((c.tc : Thread nD τ).loc b)) = StableHlo.held (c : Thread nD τ) (Pipeline.ucRefs τ sig) (V0 m c) from
    Pipeline.unscopedBufs_held (Ix := Unit) (Name := ℕ) (U := UU) (Lvl := ℕ) c (V0 m c), unscoped_bar]
  unfold launched
  iintro ⟨Hh, Hb, HO, Hcr, Hp, HG⟩
  ihave Hc := (credits (F := F) c) $$ Hcr
  isplitr [Hb HG]
  · isplitl [Hh]; · iexact Hh
    isplitl [Hc]; · iexact Hc
    isplitl [HO]; · iexact HO
    iexists (ρ c); iexact Hp
  isplitl [Hb] <;> iassumption

theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (T₀ m) : sProp 𝕄) := by
  have hsplit : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ G c))
      ⊢ (iprop((bigSep Finset.univ fun c : Dev nD => launched m c) ∗ (bigSep barCells fun g => semVal g 0)
          ∗ BI.own (ER (launchOf barCells scCells allDuties))) : sProp 𝕄) := by
    refine (bigSep_mono fun c _ => launch_one m ρ c).trans ?_
    rw [bigSep_sep', bigSep_sep', G_all, bigSep_map]
    exact BI.Entails.refl _
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  iintro ⟨H, -⟩
  ihave H' := hsplit $$ H
  icases H' with ⟨HB, Hv, Hu⟩
  imod (Rounds.fund_launch ER (ringRd (part m)) cells_apart (fun g _ h => h) allDuties) $$ [Hv Hu] with ⟨%κ, -, #Hinv, #Hr, Hat, Hopen, Htok⟩
  · isplitl [Hv]; · iexact Hv
    iexact Hu
  imodintro
  iapply (bigSep_with_persistent (R := common m κ) (Φ := fun c => iprop(share c ∗ launched m c)) fun c _ => T₀_intro m κ c)
  isplitr
  · unfold common records
    isplitr; · iexact Hinv
    iexact Hr
  iapply (Entails.of_eq (bigSep_sep' _ _ _).symm)
  isplitr [HB]
  · unfold share
    iapply (Entails.of_eq (bigSep_sep' _ _ _).symm)
    isplitl [Hat]; · iapply hat $$ Hat
    iapply (Entails.of_eq (bigSep_sep' _ _ _).symm)
    isplitl [Hopen]; · iapply (Entails.of_eq (opens_own (F := F))) $$ Hopen
    iapply (Entails.of_eq ((duties_own (F := F)).trans duties_paid)) $$ Htok
  · iexact HB

/-! ## The run -/

theorem unscoped_only : ∀ sm : SemLoc sig, sm.isScoped .tc = false → sm = .reg barS := by decide

theorem VN_arg0 (c : Dev nD) : VN m c (Proc.devRef .tc main_arg0) = m ((c : Thread nD τ).loc main_arg0) :=
  (Function.update_of_ne (by decide) _ _).trans <| (V4_of m c main_arg0 (by decide)).trans <| (V3_of m c main_arg0 (by decide)).trans <|
    (V2_of m c main_arg0 (by decide)).trans <| (V1_of m c main_arg0 (by decide)).trans rfl
theorem VN_arg1 (c : Dev nD) : VN m c (Proc.devRef .tc main_arg1) = m ((c : Thread nD τ).loc main_arg1) :=
  (Function.update_of_ne (by decide) _ _).trans <| (V4_of m c main_arg1 (by decide)).trans <| (V3_of m c main_arg1 (by decide)).trans <|
    (V2_of m c main_arg1 (by decide)).trans <| (V1_of m c main_arg1 (by decide)).trans rfl

/-- The segments of @main on device `c`. -/
abbrev items (c : Dev nD) := segs m 𝒱₀ L lv (fun _ => ride m) () (pdats m) (reg m) c

set_option backward.isDefEq.respectTransparency.types false in
/-- Every weakly fair execution of @main from memory `m` and counters at zero terminates; each device's output is then its contents from before the
    kernel with the four chunks written, the arguments are as launched, and every counter is zero. -/
theorem run_main : θ_run defs (onTc (τ := τ) (main (F := F))) ⟨m, fun _ => 0, ρ⟩ (fun r =>
    (∀ c : Dev nD, r.2.mem ((c.tc : Thread nD τ).loc main_v23) = outAfter (part m) c (out₀ m c)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  Pipeline.θ_run_regions_kit_dev_sems (pcfgs (F := F)) adm (pdats m) () cellOf_inj EP defs₀ 𝒱₀ L lv m ρ main (items m)
    (fun c Q => by
      rewrite [main_chain c, Seg.run_eq_chain,
        show (items m c).map Seg.prog = [
          StableHlo.seq (hostOps0 c),
          StableHlo.seq hostOps0_1,
          StableHlo.seq hostOps0_2,
          StableHlo.seq hostOps0_3,
          Prog.lift (.customCall (Pipeline.entry 0) ()) ] from rfl]
      dsimp (config := { failIfUnchanged := false }) only
      exact .rfl)
    (fun c => by simp only [items, segs, Seg.pipes_host, Seg.pipes_region, Seg.pipes_nil]; decide)
    (O₀ := O₀) (hL := L_of_ne) (G := G) (u₀ := u₀)
    (hu₀ := by
      unfold u₀
      rw [G_all]
      iintro Hu
      ihave H := (ownU_pair _ _) $$ Hu
      icases H with ⟨HP, HX⟩
      imodintro
      isplitl [HP]; · iexact HP
      iapply (Entails.of_eq rfl) $$ HX)
    (T₀ := T₀ m) (Tₙ := Tₙ m)
    (hch := fun c => ⟨.rfl, .rfl, .rfl, .rfl, reg_pre m c, reg_post m c⟩)
    (hinit := init m ρ)
    (QY := fun c s => (∀ b ∈ Pipeline.ucRefs τ sig, s.mem ((c : Dev nD), b) = VN m c b) ∧ s.sem (barCell c) = 0)
    (hfin := fun c s' => by
      unfold Tₙ StableHlo.held
      iintro ⟨⟨Hh, Hb⟩, HSI⟩
      ihave Hr := (pointsTo_read_all (Pipeline.ucRefs τ sig) (fun b => ((c : Thread nD τ).1, b)) (VN m c) s') $$ [Hh HSI]
      · isplitl [Hh] <;> iassumption
      icases Hr with ⟨%h, HSI⟩
      icombine HSI Hb gives %hb
      imodintro
      isplitr
      · ipureintro
        exact ⟨h, by simpa using hb⟩
      · iexact HSI)
    (hQ := fun s h hs => ⟨fun c =>
        ⟨((h c).1 _ (Finset.mem_filter.mpr ⟨StableHlo.devRef_mem_tcRefs main_v23, by decide⟩)).trans (VN_out m c),
          ((h c).1 _ (Finset.mem_filter.mpr ⟨StableHlo.devRef_mem_tcRefs main_arg0, by decide⟩)).trans (VN_arg0 m c),
          ((h c).1 _ (Finset.mem_filter.mpr ⟨StableHlo.devRef_mem_tcRefs main_arg1, by decide⟩)).trans (VN_arg1 m c)⟩,
      sem_eq_zero hs fun c sm hsm => by
        obtain rfl := unscoped_only sm hsm
        exact (h c).2⟩)

end Cert.KernelIdeal.Ring

end
-- ==== Proof.Host.lean ====
/- THE PARTIAL ARRAY each device computes before the kernel: the rows of its own block of the table that the indices name, and zeros for the others. -/
module

public import proofs.«01_k».proof.Proof.Region
public import Idealize.ShloMosaic.Lib.ValueIdx
public import Idealize.ShloMosaic.Lib.Routing.Ops
public import Idealize.ShloMosaic.Lib.Layout

@[expose] public section

noncomputable section

namespace Cert.KernelIdeal.Ring

open Cert.KernelIdeal Cert.KernelIdeal.Gen
open Idealize.ShloMosaic Idealize.ShloMosaic.TcCoe Idealize.ShloMosaic.StableHlo

variable {F : FTy → Type} [FloatOps F]
variable (m : (ℓ : Loc nD τ sig) → Buf (Elt F) ℓ)

/-! ## The operations composed -/

/-- Each index less the first row of the device's block. -/
def shifted (c : Dev nD) : IVec S4096 32 :=
  subi (m ((c : Thread nD τ).loc main_arg0)) (broadcastInDim S4096 ![] bcast_S_S4096
    (muli (Host.remui (Host.divui (constantI S_ 32 (Dev.word c)) (constantI S_ 32 4#32)) (constantI S_ 32 4#32)) (constantI S_ 32 8192#32)))
/-- Whether it is a row of the block. -/
def mine (c : Dev nD) : IVec S4096 1 :=
  andi (cmpi .sge (shifted m c) (broadcastInDim S4096 ![] bcast_S_S4096 (constantI S_ 32 0#32)))
    (cmpi .slt (shifted m c) (broadcastInDim S4096 ![] bcast_S_S4096 (constantI S_ 32 8192#32)))
/-- The row looked up: that one if it is, row 0 if not. -/
def lookup (c : Dev nD) : IVec S4096 32 :=
  select (mine m c) (shifted m c) (broadcastInDim S4096 ![] bcast_S_S4096 (constantI S_ 32 0#32))
/-- The same after the wrap of negative rows. -/
def wrapped (c : Dev nD) : IVec S4096 32 :=
  select (cmpi .slt (lookup m c) (broadcastInDim S4096 ![] bcast_S_S4096 (constantI S_ 32 0#32)))
    (addi (lookup m c) (broadcastInDim S4096 ![] bcast_S_S4096 (constantI S_ 32 8192#32))) (lookup m c)

set_option maxHeartbeats 1000000 in
theorem V1_shifted (c : Dev nD) : V1 m c main_v7 = shifted m c := by
  show StableHlo.after (hostOps0 c) _ _ = _
  after_results <;> rfl
set_option maxHeartbeats 1000000 in
theorem V1_mine (c : Dev nD) : V1 m c main_v12 = mine m c := by
  show StableHlo.after (hostOps0 c) _ _ = _
  after_results <;> rfl
theorem V1_zero (c : Dev nD) : V1 m c main_c_4 = constantI S_ 32 0#32 := by
  show StableHlo.after (hostOps0 c) _ _ = _
  after_results <;> rfl
theorem V2_lookup (c : Dev nD) : V2 m c main_v13 = lookup m c := by
  have h : V2 m c main_v13 = select (V1 m c main_v12) (V1 m c main_v7) (broadcastInDim S4096 ![] bcast_S_S4096 (V1 m c main_c_4)) := by
    show StableHlo.after hostOps0_1 _ _ = _
    after_results <;> rfl
  rw [h, V1_mine, V1_shifted, V1_zero]; rfl
theorem V2_mine (c : Dev nD) : V2 m c main_v12 = mine m c := (V2_of m c main_v12 (by decide)).trans (V1_mine m c)
theorem V3_mine (c : Dev nD) : V3 m c main_v14 = broadcastInDim S4096x1 ![0] bcast_S4096_S4096x1_0 (mine m c) := by
  have h : V3 m c main_v14 = broadcastInDim S4096x1 ![0] bcast_S4096_S4096x1_0 (V2 m c main_v12) := by
    show StableHlo.after hostOps0_2 _ _ = _
    after_results <;> rfl
  rw [h, V2_mine]
theorem V3_zero (c : Dev nD) : V3 m c main_cst = constant S_ .bf16 0x0000#16 := by
  show StableHlo.after hostOps0_2 _ _ = _
  after_results <;> rfl

theorem V2_arg1 (c : Dev nD) : V2 m c main_arg1 = m ((c : Thread nD τ).loc main_arg1) :=
  (V2_of m c main_arg1 (by decide)).trans <| (V1_of m c main_arg1 (by decide)).trans rfl

theorem V3_rows (c : Dev nD) : V3 m c main_v21 = Host.gather gather_S8192x2048_S4096x1_S4096x2048_1_0_n_n_0_1_12048
    (m ((c : Thread nD τ).loc main_arg1)) (broadcastInDim S4096x1 ![0] bcast_S4096_S4096x1_0 (wrapped m c)) := by
  have h : V3 m c main_v21 = Host.gather gather_S8192x2048_S4096x1_S4096x2048_1_0_n_n_0_1_12048 (V2 m c main_arg1)
      (broadcastInDim S4096x1 ![0] bcast_S4096_S4096x1_0
        (select (cmpi .slt (V2 m c main_v13) (broadcastInDim S4096 ![] bcast_S_S4096 (constantI S_ 32 0#32)))
          (addi (V2 m c main_v13) (broadcastInDim S4096 ![] bcast_S_S4096 (constantI S_ 32 8192#32))) (V2 m c main_v13))) := by
    show StableHlo.after hostOps0_2 _ _ = _
    after_results <;> rfl
  rw [h, V2_lookup, V2_arg1]; rfl

/-- The partial array as one term of the launch contents. -/
theorem part_eq (c : Dev nD) : part m c = select
    (broadcastInDim S4096x2048 ![0, 1] bcast_S4096x1_S4096x2048_0_1 (broadcastInDim S4096x1 ![0] bcast_S4096_S4096x1_0 (mine m c)))
    (Host.gather gather_S8192x2048_S4096x1_S4096x2048_1_0_n_n_0_1_12048 (m ((c : Thread nD τ).loc main_arg1))
      (broadcastInDim S4096x1 ![0] bcast_S4096_S4096x1_0 (wrapped m c)))
    (broadcastInDim S4096x2048 ![] bcast_S_S4096x2048 (constant S_ .bf16 0x0000#16)) := by
  have h : part m c = select (broadcastInDim S4096x2048 ![0, 1] bcast_S4096x1_S4096x2048_0_1 (V3 m c main_v14)) (V3 m c main_v21)
      (broadcastInDim S4096x2048 ![] bcast_S_S4096x2048 (V3 m c main_cst)) := by
    show StableHlo.after hostOps0_3 _ _ = _
    after_results <;> rfl
  rw [h, V3_mine, V3_rows, V3_zero]

end Cert.KernelIdeal.Ring

end
-- ==== Proof.Sums.lean ====
/- THE RING'S SUMS, over the extended reals. Each row of the table of results belongs to one of the four positions of a ring, and a device's partial array
   holds that row if the row is its own and zeros if not. Then after the ring's six steps every device's output holds every row of the table. -/
module

public import proofs.«01_k».proof.Proof.Body
public import Idealize.ShloMosaic.Lib.ValueIdx

@[expose] public section

noncomputable section

namespace Cert.KernelIdeal.Ring

open Cert.KernelIdeal Cert.KernelIdeal.Gen
open Idealize.ShloMosaic Idealize.ShloMosaic.TcCoe

/-! ## Rows read and rows written, element by element -/

section Rows

variable {F : FTy → Type} [FloatOps F]
variable (P : Dev nD → (main_v22 : Ref sig .tc).ty.Contents (Elt F))

/-- `y` is the place of `x` in the chunk number `q` of 1024 rows. -/
def InChunk (q : ℕ) (x : S1024x2048.Idx) (y : S4096x2048.Idx) : Prop := (y 0).val = 1024 * q + (x 0).val ∧ (y 1).val = (x 1).val

theorem place_eq {off : Fin 2 → ℕ} (h : RowsOff off) {q : ℕ} (e : off = ![1024 * q, 0]) {x : S1024x2048.Idx} {y : S4096x2048.Idx} (hy : InChunk q x y) :
    (Rect.unit (s := S4096x2048) off S1024x2048.size h).emb x = y := by
  subst e
  funext a
  refine Fin.ext ?_
  match a with
  | ⟨0, _⟩ => exact (Nat.add_left_cancel_iff.2 (Nat.one_mul _)).trans hy.1.symm
  | ⟨1, _⟩ => exact ((Nat.add_left_cancel_iff.2 (Nat.one_mul _)).trans (Nat.zero_add _)).trans hy.2.symm

/-- The rows of the partial array at chunk `q` hold at `x` the partial array's element there. -/
theorem rowsAt_at (c : Dev nD) {off : Fin 2 → ℕ} (h : RowsOff off) {q : ℕ} (e : off = ![1024 * q, 0]) {x : S1024x2048.Idx} {y : S4096x2048.Idx}
    (hy : InChunk q x y) : rowsAt P c off h x = P c y := by
  rw [← place_eq h e hy]; rfl

/-- Rows written at chunk `q` are there afterwards. -/
theorem setRows_at (f : (main_v23 : Ref sig .tc).ty.Contents (Elt F)) {off : Fin 2 → ℕ} (h : RowsOff off) (X : FVec F S1024x2048 .f32) {q : ℕ}
    (e : off = ![1024 * q, 0]) {x : S1024x2048.Idx} {y : S4096x2048.Idx} (hy : InChunk q x y) : setRows f off h X y = X x := by
  rw [← place_eq h e hy]
  exact View.write_emb_of_mem (v := (oRows off h).view) f X (Finset.mem_univ x)

/-- Rows outside the chunk written keep what they held. -/
theorem setRows_off (f : (main_v23 : Ref sig .tc).ty.Contents (Elt F)) {off : Fin 2 → ℕ} (h : RowsOff off) (X : FVec F S1024x2048 .f32) {q : ℕ}
    (e : off = ![1024 * q, 0]) {y : S4096x2048.Idx} (hy : (y 0).val / 1024 ≠ q) : setRows f off h X y = f y := by
  refine View.write_of_not_mem (v := (oRows off h).view) f X Finset.univ fun hm => hy ?_
  rw [View.setOn_univ] at hm
  obtain ⟨x, -, hx⟩ := Finset.mem_map.1 hm
  have h0 : (y 0).val = 1024 * q + 1 * (x 0).val := by
    rw [← hx]; subst e; rfl
  have hlt : (x 0).val < 1024 := (x 0).isLt
  omega

end Rows

/-! ## The sums -/

section Sums

variable (P : Dev nD → (main_v22 : Ref sig .tc).ty.Contents (Elt Ideal))

/-- The position in its ring that owns each row, and the table of results, whose rows the partial arrays hold apart. -/
structure Apart (own : S4096x2048.Idx → ℕ) (T : S4096x2048.Idx → EReal) : Prop where
  lt : ∀ y, own y < 4
  part : ∀ (c : Dev nD) (y : S4096x2048.Idx), P c y = if own y = yOf c then T y else (0 : EReal)

variable {P} {own : S4096x2048.Idx → ℕ} {T : S4096x2048.Idx → EReal} (A : Apart P own T)
include A

/-- What step `s < 4` sends from `c`: of the chunk `s` places behind it, the rows owned by itself and the `s` positions before it. -/
theorem sent_at : ∀ s : ℕ, s < 4 → ∀ (c : Dev nD) (x : S1024x2048.Idx) (y : S4096x2048.Idx), InChunk ((yOf c + 4 - s) % 4) x y →
    sent P s c x = if (yOf c + 4 - own y) % 4 ≤ s then T y else (0 : EReal)
  | 0, _, c, x, y, hy => by
    have hc := yOf_lt c
    have ho := A.lt y
    have e : (yOf c + 4 - 0) % 4 = yOf c := by omega
    rw [e] at hy
    refine (rowsAt_at P c (k0_off1_inb c) (off1_at c) hy).trans ?_
    rw [A.part]
    exact if_congr (by omega) rfl rfl
  | s + 1, hs, c, x, y, hy => by
    have hc := yOf_lt c
    have hl := yOf_left c
    have ho := A.lt y
    have e1 : (yOf (left c) + 4 - s) % 4 = (yOf c + 4 - (s + 1)) % 4 := by omega
    have e2 : (yOf c + 3 - s) % 4 = (yOf c + 4 - (s + 1)) % 4 := by omega
    have hL := sent_at s (by omega) (left c) x y (e1 ▸ hy)
    have hR := rowsAt_at P c (k0_off2_inb c ⟨s, by omega⟩) (off2_at c ⟨s, by omega⟩) (e2.symm ▸ hy)
    rw [A.part] at hR
    refine (congrFun (sent_sum P ⟨s, by omega⟩ c) x).trans ?_
    refine (congrArg₂ (fun a b : EReal => a + b) hL hR).trans ?_
    by_cases hown : own y = yOf c
    · rw [if_pos hown, if_neg (by omega), if_pos (by omega), zero_add]
    · rw [if_neg hown, add_zero]
      exact if_congr (by omega) rfl rfl

/-- From step 3 on whole chunks of the table travel: step `3 + j` sends the chunk `j` places behind the one after `c`'s own. -/
theorem sent_whole : ∀ j : ℕ, j < 4 → ∀ (c : Dev nD) (x : S1024x2048.Idx) (y : S4096x2048.Idx), InChunk ((yOf c + 5 - j) % 4) x y →
    sent P (3 + j) c x = T y
  | 0, _, c, x, y, hy => by
    have hc := yOf_lt c
    have e : (yOf c + 5 - 0) % 4 = (yOf c + 4 - 3) % 4 := by omega
    exact (sent_at A 3 (by decide) c x y (e ▸ hy)).trans (if_pos (by omega))
  | j + 1, hj, c, x, y, hy => by
    have hc := yOf_lt c
    have hl := yOf_left c
    have e : (yOf (left c) + 5 - j) % 4 = (yOf c + 5 - (j + 1)) % 4 := by omega
    refine (congrFun (sent_pass P (3 + j) (by omega) c) x).trans ?_
    exact sent_whole j (by omega) (left c) x y (e ▸ hy)

/-- What lands in step `3 + j` is the chunk `j` places behind `c`'s own. -/
theorem landed_whole (j : ℕ) (hj : j < 3) (c : Dev nD) (x : S1024x2048.Idx) (y : S4096x2048.Idx) (hy : InChunk ((yOf c + 4 - j) % 4) x y) :
    landed P (3 + j) c x = T y := by
  have hc := yOf_lt c
  have hl := yOf_left c
  have e : (yOf (left c) + 5 - j) % 4 = (yOf c + 4 - j) % 4 := by omega
  exact sent_whole A j (by omega) (left c) x y (e ▸ hy)

/-- After the kernel the output is the table, whatever it held before. -/
theorem outAfter_table (c : Dev nD) (f : (main_v23 : Ref sig .tc).ty.Contents (Elt Ideal)) (y : S4096x2048.Idx) : outAfter P c f y = T y := by
  have hc := yOf_lt c
  have hy : (y 0).val < 4096 := (y 0).isLt
  let x : S1024x2048.Idx := ValueIdx.ix2 ⟨(y 0).val % 1024, by omega⟩ (y 1)
  have hx : InChunk ((y 0).val / 1024) x y := ⟨(Nat.div_add_mod _ _).symm, rfl⟩
  have h2 := off4_at c 2
  have h1 := off4_at c 1
  have h0 := off4_at c 0
  unfold outAfter
  by_cases e2 : (y 0).val / 1024 = (yOf c + 4 - 2) % 4
  · exact (setRows_at _ (k0_off4_inb c 2) _ h2 (e2 ▸ hx)).trans (landed_whole A 2 (by decide) c x y (e2 ▸ hx))
  refine (setRows_off _ (k0_off4_inb c 2) _ h2 e2).trans ?_
  by_cases e1 : (y 0).val / 1024 = (yOf c + 4 - 1) % 4
  · exact (setRows_at _ (k0_off4_inb c 1) _ h1 (e1 ▸ hx)).trans (landed_whole A 1 (by decide) c x y (e1 ▸ hx))
  refine (setRows_off _ (k0_off4_inb c 1) _ h1 e1).trans ?_
  by_cases e0 : (y 0).val / 1024 = (yOf c + 4 - 0) % 4
  · exact (setRows_at _ (k0_off4_inb c 0) _ h0 (e0 ▸ hx)).trans (landed_whole A 0 (by decide) c x y (e0 ▸ hx))
  refine (setRows_off _ (k0_off4_inb c 0) _ h0 e0).trans ?_
  have e3 : (y 0).val / 1024 = (yOf c + 1) % 4 := by omega
  have e3' : (y 0).val / 1024 = (yOf c + 5 - 0) % 4 := by omega
  exact (setRows_at _ (k0_off3_inb c) _ (off3_at c) (e3 ▸ hx)).trans (sent_whole A 0 (by decide) c x y (e3' ▸ hx))

end Sums

end Cert.KernelIdeal.Ring

end
-- ==== Proof.Words.lean ====
/- THE INDEX ARITHMETIC on 32-bit words: an index below 32768, less the first row of a block of 8192, is a row of the block exactly when the block is the
   index's own. -/
module

public import Idealize.ShloMosaic.PureOps

@[expose] public section

namespace Cert.Words

open Idealize.ShloMosaic

/-- A word below `2 ^ 31` read as a signed number. -/
theorem toInt_small {n : BitVec 32} (h : n.toNat < 2 ^ 31) : n.toInt = (n.toNat : Int) := by
  rw [BitVec.toInt_eq_toNat_cond, if_pos (by omega)]

/-- An index less the first row of block `q`, as a signed number. -/
theorem toInt_sub_block {n : BitVec 32} (hn : n.toNat < 32768) {q : ℕ} (hq : q < 4) :
    (n - BitVec.ofNat 32 (8192 * q)).toInt = (n.toNat : Int) - 8192 * q := by
  have e : (BitVec.ofNat 32 (8192 * q)).toNat = 8192 * q := by
    rw [BitVec.toNat_ofNat]; exact Nat.mod_eq_of_lt (by omega)
  rw [BitVec.toInt_eq_toNat_cond, BitVec.toNat_sub, e]
  split <;> omega

theorem sge_eq (x y : BitVec 32) : IntOp.cmpi .sge x y = BitVec.ofBool (decide (y.toInt ≤ x.toInt)) := by
  show BitVec.ofBool (y.sle x) = _
  rw [BitVec.sle_eq_decide]
theorem slt_eq (x y : BitVec 32) : IntOp.cmpi .slt x y = BitVec.ofBool (decide (x.toInt < y.toInt)) := by
  show BitVec.ofBool (x.slt y) = _
  rw [BitVec.slt_eq_decide]

/-- Both comparisons hold exactly when the index belongs to block `q`. -/
theorem in_block {n : BitVec 32} (hn : n.toNat < 32768) {q : ℕ} (hq : q < 4) :
    IntOp.andi (IntOp.cmpi .sge (n - BitVec.ofNat 32 (8192 * q)) 0#32) (IntOp.cmpi .slt (n - BitVec.ofNat 32 (8192 * q)) 8192#32)
      = if n.toNat / 8192 = q then 1#1 else 0#1 := by
  rw [sge_eq, slt_eq, toInt_sub_block hn hq, show (0#32).toInt = 0 from rfl, show (8192#32).toInt = 8192 from rfl]
  by_cases h : n.toNat / 8192 = q
  · rw [if_pos h, decide_eq_true (by omega), decide_eq_true (by omega)]; rfl
  · rw [if_neg h]
    by_cases h1 : (0 : Int) ≤ (n.toNat : Int) - 8192 * q
    · rw [decide_eq_true h1, decide_eq_false (by omega)]; rfl
    · rw [decide_eq_false h1, decide_eq_true (by omega)]; rfl

/-- An index of block `q` less the block's first row is the row's number in the block. -/
theorem sub_block {n : BitVec 32} {q : ℕ} (hn : n.toNat < 32768) (h : n.toNat / 8192 = q) :
    n - BitVec.ofNat 32 (8192 * q) = BitVec.ofNat 32 (n.toNat % 8192) := by
  refine BitVec.eq_of_toNat_eq ?_
  have e : (BitVec.ofNat 32 (8192 * q)).toNat = 8192 * q := by
    rw [BitVec.toNat_ofNat]; exact Nat.mod_eq_of_lt (by omega)
  rw [BitVec.toNat_sub, e, BitVec.toNat_ofNat]
  omega

/-- A word below `2 ^ 31` is not negative. -/
theorem not_neg {n : BitVec 32} (h : n.toNat < 2 ^ 31) : IntOp.cmpi .slt n 0#32 = 0#1 := by
  rw [slt_eq, toInt_small h, show (0#32).toInt = 0 from rfl, decide_eq_false (by omega)]; rfl

/-- Not negative and below 32768, as a signed number: below 32768. -/
theorem bounded {n : BitVec 32} (h : IntOp.andi (IntOp.cmpi .sge n 0#32) (IntOp.cmpi .slt n 32768#32) = 1#1) : n.toNat < 32768 := by
  rw [sge_eq, slt_eq, show (0#32).toInt = 0 from rfl, show (32768#32).toInt = 32768 from rfl] at h
  have hlt := n.isLt
  by_cases h1 : (0 : Int) ≤ n.toInt
  · by_cases h2 : n.toInt < 32768
    · rw [BitVec.toInt_eq_toNat_cond] at h1 h2
      split at h1 <;> omega
    · rw [decide_eq_false h2, decide_eq_true h1] at h
      exact absurd h (by decide)
  · rw [decide_eq_false h1] at h
    by_cases h2 : n.toInt < 32768
    · rw [decide_eq_true h2] at h; exact absurd h (by decide)
    · rw [decide_eq_false h2] at h; exact absurd h (by decide)

end Cert.Words
-- ==== Proof.Lookup.lean ====
/- THE PARTIAL ARRAY AND THE REFERENCE, element by element, where every index is a row of the table: the partial arrays hold the reference's rows apart, each
   on the devices whose block of the table it comes from. -/
module

public import proofs.«01_k».proof.Proof.Host
public import proofs.«01_k».proof.Proof.Sums
public import proofs.«01_k».proof.Proof.Words
public import proofs.«01_k».proof.ReferenceIdeal
public import proofs.«01_k».proof.Proof.Gen.ReferenceIdeal

@[expose] public section

noncomputable section

namespace Cert.KernelIdeal.Ring

open Cert.KernelIdeal Cert.KernelIdeal.Gen
open Idealize.ShloMosaic Idealize.ShloMosaic.TcCoe Idealize.ShloMosaic.ValueIdx

/-! ## The table of results -/

/-- The rows of the whole table `E` that the indices name. -/
def named {α : Type} (ids : IVec S4096 32) (hin : ∀ i, (ids i).toNat < 32768) (E : (⟨2, ![32768, 2048]⟩ : Shape).Idx → α) : S4096x2048.Idx → α :=
  fun y => E (ix2 ⟨(ids (ix1 (y 0))).toNat, hin _⟩ (y 1))

/-- The ring position whose block of the table holds the row that each result row comes from. -/
def owner (ids : IVec S4096 32) (y : S4096x2048.Idx) : ℕ := (ids (ix1 (y 0))).toNat / 8192

/-! ## An array laid out as a column, and a column repeated -/

theorem column_at {α : Type} (h : (⟨1, ![4096]⟩ : Shape).BroadcastsInDim ⟨2, ![4096, 1]⟩ ![0]) (v : (⟨1, ![4096]⟩ : Shape).Idx → α) (r : Fin 4096) :
    broadcastInDim ⟨2, ![4096, 1]⟩ ![0] h v (ix2 r (0 : Fin 1)) = v (ix1 r) :=
  congrArg v (funext fun a => match a with | ⟨0, _⟩ => rfl)
theorem repeated_at {α : Type} (h : (⟨2, ![4096, 1]⟩ : Shape).BroadcastsInDim ⟨2, ![4096, 2048]⟩ ![0, 1]) (v : (⟨2, ![4096, 1]⟩ : Shape).Idx → α)
    (r : Fin 4096) (j : Fin 2048) : broadcastInDim ⟨2, ![4096, 2048]⟩ ![0, 1] h v (ix2 r j) = v (ix2 r (0 : Fin 1)) :=
  congrArg v (funext fun a => match a with | ⟨0, _⟩ => rfl | ⟨1, _⟩ => rfl)

/-! ## The partial array -/

section Part

variable {F : FTy → Type} [FloatOps F]
variable (m : (ℓ : Loc nD τ sig) → Buf (Elt F) ℓ) (c : Dev nD) (ids : IVec S4096 32) (hids : m ((c : Thread nD τ).loc main_arg0) = ids)

theorem first_row (i : S_.Idx) :
    muli (Host.remui (Host.divui (constantI S_ 32 (Dev.word c)) (constantI S_ 32 4#32)) (constantI S_ 32 4#32)) (constantI S_ 32 8192#32) i
      = BitVec.ofNat 32 (8192 * yOf c) := by
  show IntOp.muli (IntOp.remui .host (IntOp.divui .host (Dev.word c) 4#32) 4#32) 8192#32 = _
  revert c; decide +kernel

include hids

theorem shifted_at (i : S4096.Idx) : shifted m c i = ids i - BitVec.ofNat 32 (8192 * yOf c) := by
  subst hids
  exact congrArg (IntOp.subi (m ((c : Thread nD τ).loc main_arg0) i)) (first_row c _)

variable (hin : ∀ i, (ids i).toNat < 32768)
include hin

theorem mine_at (i : S4096.Idx) : mine m c i = if (ids i).toNat / 8192 = yOf c then 1#1 else 0#1 := by
  have h : mine m c i = IntOp.andi (IntOp.cmpi .sge (shifted m c i) 0#32) (IntOp.cmpi .slt (shifted m c i) 8192#32) := rfl
  rw [h, shifted_at m c ids hids, Words.in_block (hin i) (yOf_lt c)]

theorem wrapped_at (i : S4096.Idx) (h : (ids i).toNat / 8192 = yOf c) : wrapped m c i = BitVec.ofNat 32 ((ids i).toNat % 8192) := by
  have hl : lookup m c i = BitVec.ofNat 32 ((ids i).toNat % 8192) := by
    have e : lookup m c i = Scalar.select (mine m c i) (shifted m c i) 0#32 := rfl
    rw [e, mine_at m c ids hids hin, if_pos h, shifted_at m c ids hids, Words.sub_block (hin i) h]; rfl
  have e : wrapped m c i = Scalar.select (IntOp.cmpi .slt (lookup m c i) 0#32) (IntOp.addi (lookup m c i) 8192#32) (lookup m c i) := rfl
  rw [e, hl, Words.not_neg (by rw [BitVec.toNat_ofNat]; omega)]; rfl

/-- The block of the table on `c`, at its row `r`, is the table at row `8192 * yOf c + r`. -/
theorem block_at {α : Type} (E : (⟨2, ![32768, 2048]⟩ : Shape).Idx → α) (n : Fin 32768) (h : n.val / 8192 = yOf c) (j : Fin 2048) :
    Layout.blockN ⟨2, ![8192, 2048]⟩ ⟨2, ![32768, 2048]⟩ (Layout.meshBlock [2, 4, 4] ![[1], []] c) E (by decide) (ix2 ⟨n.val % 8192, Nat.mod_lt _ (by decide)⟩ j)
      = E (ix2 n j) := by
  have hy : Layout.meshLin [2, 4, 4] c.val [1] = yOf c := by clear h hids; revert c; decide
  refine congrArg E (funext fun a => Fin.ext ?_)
  match a with
  | ⟨0, _⟩ =>
    show Layout.meshLin [2, 4, 4] c.val [1] * 8192 + n.val % 8192 = n.val
    rw [hy]; omega
  | ⟨1, _⟩ =>
    show 0 * 2048 + j.val = j.val
    omega

variable (E : (⟨2, ![32768, 2048]⟩ : Shape).Idx → Elt F .bf16)
  (hE : m ((c : Thread nD τ).loc main_arg1)
    = Layout.blockN ⟨2, ![8192, 2048]⟩ ⟨2, ![32768, 2048]⟩ (Layout.meshBlock [2, 4, 4] ![[1], []] c) E)
include hE

theorem part_at (y : S4096x2048.Idx) :
    part m c y = if owner ids y = yOf c then named ids hin E y else FloatOps.ofBits .bf16 0x0000#16 := by
  rw [part_eq]
  have hm : broadcastInDim S4096x2048 ![0, 1] bcast_S4096x1_S4096x2048_0_1 (broadcastInDim S4096x1 ![0] bcast_S4096_S4096x1_0 (mine m c)) y
      = mine m c (ix1 (y 0)) := by
    rw [eq_ix2 y]
    exact (repeated_at _ _ (y 0) (y 1)).trans (column_at _ _ (y 0))
  rw [select_apply, hm, mine_at m c ids hids hin]
  by_cases h : (ids (ix1 (y 0))).toNat / 8192 = yOf c
  · rw [if_pos h, select_one]
    refine Eq.trans ?_ (if_pos h).symm
    have hb : (broadcastInDim S4096x1 ![0] bcast_S4096_S4096x1_0 (wrapped m c)) (ix2 (y 0) (0 : Fin 1))
        = BitVec.ofNat 32 ((⟨(ids (ix1 (y 0))).toNat % 8192, Nat.mod_lt _ (by decide)⟩ : Fin 8192)).val :=
      (column_at _ _ (y 0)).trans (wrapped_at m c ids hids hin (ix1 (y 0)) h)
    have hg := Routing.gather_row gather_S8192x2048_S4096x1_S4096x2048_1_0_n_n_0_1_12048 rfl rfl rfl rfl rfl
      (m ((c : Thread nD τ).loc main_arg1)) _ (y 0) (y 1) _ hb (by decide)
    rw [eq_ix2 y]
    refine hg.trans ?_
    rw [hE]
    exact block_at m c ids hids hin E ⟨_, hin (ix1 (y 0))⟩ h (y 1)
  · rw [if_neg h, select_zero]
    exact (if_neg h).symm

end Part

/-! ## Over the extended reals -/

section AtIdeal

variable (m : (ℓ : Loc nD τ sig) → Buf (Elt Ideal) ℓ) (ids : IVec S4096 32) (hin : ∀ i, (ids i).toNat < 32768)
  (E : (⟨2, ![32768, 2048]⟩ : Shape).Idx → Elt Ideal .bf16)
  (hids : ∀ c : Dev nD, m ((c : Thread nD τ).loc main_arg0) = ids)
  (hE : ∀ c : Dev nD, m ((c : Thread nD τ).loc main_arg1)
    = Layout.blockN ⟨2, ![8192, 2048]⟩ ⟨2, ![32768, 2048]⟩ (Layout.meshBlock [2, 4, 4] ![[1], []] c) E)
include hids hE

/-- The partial arrays hold the named rows apart. -/
theorem part_apart : Apart (part m) (owner ids) (named ids hin E) where
  lt y := by
    have := hin (ix1 (y 0))
    unfold owner; omega
  part c y := (part_at m c ids (hids c) hin E (hE c) y).trans (by
    have z : (FloatOps.ofBits .bf16 0x0000#16 : Ideal .bf16) = (0 : EReal) := by
      show Ideal.ofBits .bf16 0x0000#16 = 0
      simp [Ideal.ofBits, Ideal.ieee]
    rw [z])

/-- Every device's output is the named rows. -/
theorem out_named (c : Dev nD) : outAfter (part m) c (out₀ m c) = named ids hin E :=
  funext fun y => outAfter_table (part_apart m ids hin E hids hE) c (out₀ m c) y

end AtIdeal

/-! ## The reference -/

/-- The reference's result is the named rows. -/
theorem reference_named (ids : IVec S4096 32) (hin : ∀ i, (ids i).toNat < 32768) (E : (⟨2, ![32768, 2048]⟩ : Shape).Idx → Elt Ideal .bf16) :
    extf (F := Ideal) .f32 (Host.gather ReferenceIdeal.gather_S32768x2048_S4096x1_S4096x2048_1_0_n_n_0_1_12048 E
      (broadcastInDim ReferenceIdeal.S4096x1 ![0] ReferenceIdeal.Gen.bcast_S4096_S4096x1_0
        (select (cmpi .slt ids (broadcastInDim ReferenceIdeal.S4096 ![] ReferenceIdeal.Gen.bcast_S_S4096 (constantI ReferenceIdeal.S_ 32 0#32)))
          (addi ids (broadcastInDim ReferenceIdeal.S4096 ![] ReferenceIdeal.Gen.bcast_S_S4096 (constantI ReferenceIdeal.S_ 32 32768#32))) ids)))
      ReferenceIdeal.Gen.bitsLt_bf16_f32 = named ids hin E := by
  funext y
  have hi := hin (ix1 (y 0))
  rw [eq_ix2 y]
  refine (congrFun (f := extf (F := Ideal) .f32 _ _) rfl (ix2 (y 0) (y 1))).trans ?_
  refine Routing.gather_row (nb := 32768) (B := 2048) (n := 4096) ReferenceIdeal.gather_S32768x2048_S4096x1_S4096x2048_1_0_n_n_0_1_12048 rfl rfl rfl rfl rfl
    E _ (y 0) (y 1) ⟨(ids (ix1 (y 0))).toNat, hi⟩ ?_ (by decide)
  refine (column_at _ _ (y 0)).trans ?_
  show Scalar.select (IntOp.cmpi .slt (ids (ix1 (y 0))) 0#32) (IntOp.addi (ids (ix1 (y 0))) 32768#32) (ids (ix1 (y 0))) = _
  rw [Words.not_neg (by omega)]
  exact BitVec.eq_of_toNat_eq (by rw [BitVec.toNat_ofNat]; exact (Nat.mod_eq_of_lt (by omega)).symm)

end Cert.KernelIdeal.Ring

end
-- ==== Proof.lean ====
module

public import proofs.«01_k».proof.Defs
public import proofs.«01_k».proof.Proof.Launch
public import proofs.«01_k».proof.Proof.Lookup
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.SL.Sem

instance pre_facts_kernel : Cert.Pre_ids_in_table_KernelIdeal.Facts where
  bcast_S_S4096 := by decide
instance pre_facts_reference : Cert.Pre_ids_in_table_ReferenceIdeal.Facts where
  bcast_S_S4096 := by decide

/-! ## The frames -/

theorem frame_kernel : Cert.quiescent_Kernel := fun m ρ _ =>
  (θ_run (Cert.KernelIdeal.defs (F := Bits)) _ _).mono (fun _ h => ⟨fun c => (h.1 c).2, h.2⟩) (Cert.KernelIdeal.Ring.run_main (F := Bits) m ρ)
theorem frame_kernel_ideal : Cert.quiescent_KernelIdeal := fun m ρ _ =>
  (θ_run (Cert.KernelIdeal.defs (F := Ideal)) _ _).mono (fun _ h => ⟨fun c => (h.1 c).2, h.2⟩) (Cert.KernelIdeal.Ring.run_main (F := Ideal) m ρ)
theorem frame_kernel_ideal_pre : Cert.quiescent_KernelIdeal_pre_ids_in_table_KernelIdeal := fun m ρ _ =>
  (θ_run (Cert.KernelIdeal.defs (F := Ideal)) _ _).mono (fun _ h => ⟨fun c => (h.1 c).2, h.2⟩) (Cert.KernelIdeal.Ring.run_main (F := Ideal) m ρ)
theorem frame_reference : Cert.quiescent_ReferenceIdeal := fun m ρ _ =>
  (θ_run (Cert.ReferenceIdeal.defs (F := Ideal)) _ _).mono (fun r h => ⟨fun c => (h c).2, sem_eq_zero_of_no_sems rfl r.2⟩)
    (Cert.ReferenceIdeal.Value.run (F := Ideal) m ρ)
theorem frame_reference_pre : Cert.quiescent_ReferenceIdeal_pre_ids_in_table_ReferenceIdeal := fun m ρ _ =>
  (θ_run (Cert.ReferenceIdeal.defs (F := Ideal)) _ _).mono (fun r h => ⟨fun c => (h c).2, sem_eq_zero_of_no_sems rfl r.2⟩)
    (Cert.ReferenceIdeal.Value.run (F := Ideal) m ρ)

/-! ## The value -/

/-- Under the precondition the kernel leaves on every device what the reference computes: the rows of the table that the indices name. -/
theorem algebraic : Cert.algebraic_KernelIdeal_ReferenceIdeal_pre_ids_in_table_KernelIdeal := fun m g m' g' hpre hin => by
  have hb : ∀ i, (m' (((0 : Dev Cert.ReferenceIdeal.nD).tc : Thread Cert.ReferenceIdeal.nD Cert.ReferenceIdeal.τ).loc Cert.ReferenceIdeal.main_arg0) i).toNat < 32768 :=
    fun i => by
      rw [← (hin 0).1]
      exact Cert.Words.bounded (congrFun (hpre 0) i)
  refine ⟨Cert.KernelIdeal.Ring.named _ hb (m' (((0 : Dev Cert.ReferenceIdeal.nD).tc : Thread Cert.ReferenceIdeal.nD Cert.ReferenceIdeal.τ).loc Cert.ReferenceIdeal.main_arg1)), ?_, ?_⟩
  · refine (θ_run (Cert.KernelIdeal.defs (F := Ideal)) _ _).mono (fun r h c => ?_) (Cert.KernelIdeal.Ring.run_main (F := Ideal) m g)
    exact ⟨(h.1 c).1.trans (Cert.KernelIdeal.Ring.out_named m _ hb _ (fun c => (hin c).1) (fun c => (hin c).2) c), (h.1 c).2⟩
  · refine (θ_run (Cert.ReferenceIdeal.defs (F := Ideal)) _ _).mono (fun r h => ?_) (Cert.ReferenceIdeal.Value.run (F := Ideal) m' g')
    exact ⟨(h 0).1.trans (Cert.KernelIdeal.Ring.reference_named _ hb _), (h 0).2⟩

/-- Everything claimed. -/
theorem claim : Cert.Claim := ⟨Cert.Kernel.Gen.facts, Cert.KernelIdeal.Gen.facts, Cert.ReferenceIdeal.Gen.facts, pre_facts_kernel, pre_facts_reference,
  frame_kernel, frame_kernel_ideal, frame_kernel_ideal_pre, frame_reference, frame_reference_pre, trivial, algebraic⟩

end Cert.Proof

end
